-- ==== Defs.lean ====
def Pre_Kernel [hPre_counts_in_range : Cert.Pre_counts_in_range.Facts] (m : (ℓ : Loc Cert.Kernel.nD Cert.Kernel.τ Cert.Kernel.sig) → Buf (Elt Bits) ℓ) : Prop :=
  ∀ c : Dev Cert.Kernel.nD,
    (Cert.Pre_counts_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rows_finite [hPre_rows_finite : Cert.Pre_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_finite [hPre_rows_finite : Cert.Pre_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_counts_in_range : Cert.Pre_counts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_finite [hKernelIdeal : Cert.KernelIdeal.Facts] [hPre_rows_finite : Cert.Pre_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_finite [hReferenceIdeal : Cert.ReferenceIdeal.Facts] [hPre_rows_finite : Cert.Pre_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_finite [hKernelIdeal : Cert.KernelIdeal.Facts] [hReferenceIdeal : Cert.ReferenceIdeal.Facts] [hPre_rows_finite : Cert.Pre_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_counts_in_range : Cert.Pre_counts_in_range.Facts) (hPre_rows_finite : Cert.Pre_rows_finite.Facts),
    quiescent_Kernel (hKernel := hKernel) (hPre_counts_in_range := hPre_counts_in_range)
    ∧ quiescent_KernelIdeal (hKernelIdeal := hKernelIdeal) (hPre_counts_in_range := hPre_counts_in_range)
    ∧ quiescent_KernelIdeal_pre_rows_finite (hKernelIdeal := hKernelIdeal) (hPre_rows_finite := hPre_rows_finite)
    ∧ quiescent_ReferenceIdeal (hReferenceIdeal := hReferenceIdeal)
    ∧ quiescent_ReferenceIdeal_pre_rows_finite (hReferenceIdeal := hReferenceIdeal) (hPre_rows_finite := hPre_rows_finite)
    ∧ preserves_Kernel_KernelIdeal
    ∧ algebraic_KernelIdeal_ReferenceIdeal_pre_rows_finite (hKernelIdeal := hKernelIdeal) (hReferenceIdeal := hReferenceIdeal) (hPre_rows_finite := hPre_rows_finite)
-- ==== Pre_counts_in_range.lean ====
abbrev S8x2048x2048 : Shape := ⟨3, ![8, 2048, 2048]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x2048x2048 .f32) (main_arg1 : IVec S8 32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 2048#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Pre_rows_finite.lean ====
abbrev S8x2048x2048 : Shape := ⟨3, ![8, 2048, 2048]⟩
abbrev S8 : Shape := ⟨1, ![8]⟩
abbrev S_ : Shape := ⟨0, ![]⟩
abbrev S8x2048 : Shape := ⟨2, ![8, 2048]⟩
abbrev S2048 : Shape := ⟨1, ![2048]⟩
abbrev S1x2048 : Shape := ⟨2, ![1, 2048]⟩
abbrev S8x1 : Shape := ⟨2, ![8, 1]⟩

class Facts : Prop where
  reducesTo_S8x2048x2048_S8x2048_d2 : S8x2048x2048.ReducesTo [2] S8x2048
  h_S_ : 0 < S_.numel
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  bcast_S_S8 : S_.BroadcastsInDim S8 (![] : Fin 0 → Fin S8.rank)
  reducesTo_S8_S_d0 : S8.ReducesTo [0] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_v12 : IVec S_ 1) (main_v17 : IVec S_ 1) : IVec S_ 1 :=
  let main_v18 : IVec S_ 1 := andi main_v12 main_v17
  main_v18

def fn {F : FTy → Type} [FloatOps F] (main_arg0 : FVec F S8x2048x2048 .f32) (main_arg1 : IVec S8 32) : IVec S_ 1 :=
  let main_cst : FVec F S_ .f32 := constant S_ .f32 0xFF800000#32
  let main_v0 : FVec F S8x2048 .f32 := (fun x v => Host.reduce FloatOps.maximumf x v reducesTo_S8x2048x2048_S8x2048_d2 h_S_) main_arg0 main_cst
  let main_v1 : IVec S2048 32 := iotaInDim S2048 32 0
  let main_v2 : IVec S1x2048 32 := broadcastInDim S1x2048 ![1] bcast_S2048_S1x2048_1 main_v1
  let main_v3 : IVec S8x1 32 := broadcastInDim S8x1 ![0] bcast_S8_S8x1_0 main_arg1
  let main_v4 : IVec S8x2048 32 := broadcastInDim S8x2048 ![0, 1] bcast_S1x2048_S8x2048_0_1 main_v2
  let main_v5 : IVec S8x2048 32 := broadcastInDim S8x2048 ![0, 1] bcast_S8x1_S8x2048_0_1 main_v3
  let main_v6 : IVec S8x2048 1 := cmpi .sge main_v4 main_v5
  let main_c : IVec S_ 32 := constantI S_ 32 0#32
  let main_v7 : IVec S8 32 := broadcastInDim S8 ![] bcast_S_S8 main_c
  let main_v8 : IVec S8 1 := cmpi .sge main_arg1 main_v7
  let main_c_0 : IVec S_ 32 := constantI S_ 32 2048#32
  let main_v9 : IVec S8 32 := broadcastInDim S8 ![] bcast_S_S8 main_c_0
  let main_v10 : IVec S8 1 := cmpi .sle main_arg1 main_v9
  let main_v11 : IVec S8 1 := andi main_v8 main_v10
  let main_c_1 : IVec S_ 1 := constantI S_ 1 1#1
  let main_v12 : IVec S_ 1 := (fun x v => Host.reduce IntOp.andi x v reducesTo_S8_S_d0 h_S_) main_v11 main_c_1
  let main_v13 : FVec F S8x2048 .f32 := Host.absf main_v0
  let main_cst_2 : FVec F S_ .f32 := constant S_ .f32 0x7F800000#32
  let main_v14 : FVec F S8x2048 .f32 := broadcastInDim S8x2048 ![] bcast_S_S8x2048 main_cst_2
  let main_v15 : IVec S8x2048 1 := cmpf .olt main_v13 main_v14
  let main_v16 : IVec S8x2048 1 := ori main_v6 main_v15
  let main_c_3 : IVec S_ 1 := constantI S_ 1 1#1
  let main_v17 : IVec S_ 1 := (fun x v => Host.reduce IntOp.andi x v reducesTo_S8x2048_S_d0_1 h_S_) main_v16 main_c_3
  fn_part1 (F := F) main_v12 main_v17
-- ==== Kernel.lean ====
abbrev S8x2048x2048 : Shape := ⟨3, ![8, 2048, 2048]⟩
abbrev S8 : Shape := ⟨1, ![8]⟩
abbrev S2x512x2048 : Shape := ⟨3, ![2, 512, 2048]⟩
abbrev S512x2048 : Shape := ⟨2, ![512, 2048]⟩
abbrev S2 : Shape := ⟨1, ![2]⟩
abbrev S_ : Shape := ⟨0, ![]⟩
abbrev S33 : Shape := ⟨1, ![33]⟩
abbrev S1 : Shape := ⟨1, ![1]⟩
abbrev S1x512x2048 : Shape := ⟨3, ![1, 512, 2048]⟩
abbrev S512 : Shape := ⟨1, ![512]⟩
abbrev S512x1 : Shape := ⟨2, ![512, 1]⟩

abbrev nBuf : Space → Nat
  | .hbm => 2
  | .vmem => 3
  | .smem => 3
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .local _ .vmem, ⟨0, _⟩ => ⟨S2x512x2048, .f32⟩
  | .local _ .vmem, ⟨1, _⟩ => ⟨S2x512x2048, .f32⟩
  | .local _ .vmem, ⟨2, _⟩ => ⟨S512x2048, .f32⟩
  | .local _ .smem, ⟨0, _⟩ => ⟨S8, .i32⟩
  | .local _ .smem, ⟨1, _⟩ => ⟨S33, .i32⟩
  | .local _ .smem, ⟨2, _⟩ => ⟨S33, .i32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch6 : Ref sig .tc := ⟨.smem, 1, rfl⟩
abbrev cc0_scratch7 : Ref sig .tc := ⟨.smem, 2, rfl⟩

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let v28 : Index := Scalar.indexCast arg12
  ![v28.toNat]
@[reducible] def k0_t2_loop (v29 : BitVec 32) : Scf.Loop 32 :=
  let c511_i32 : BitVec 32 := 511#32
  let v30 : BitVec 32 := Scalar.addi v29 c511_i32
  let c512_i32 : BitVec 32 := 512#32
  let v31 : BitVec 32 := Scalar.divsi v30 c512_i32
  let c4_i32 : BitVec 32 := 4#32
  let v32 : BitVec 32 := Scalar.subi c4_i32 v31
  let c1_i32_24 : BitVec 32 := 1#32
  let v34 : BitVec 32 := Scalar.divsi v32 c1_i32_24
  let v35 : BitVec 32 := Scalar.muli v34 c1_i32_24
  let v36 : BitVec 32 := Scalar.addi v31 v35
  let c1_i32_25 : BitVec 32 := 1#32
  ⟨v31, v36, c1_i32_25⟩

def k0_off2 (k0_t1 : Fin k0_t1_loop.trips) (v29 : BitVec 32) (k0_t2 : Fin (k0_t2_loop v29).trips) : Fin 3 → Nat :=
  let c0_i32_1 : BitVec 32 := 0#32
  let c1_i32 : BitVec 32 := 1#32
  let arg12 : BitVec 32 := Scf.iv c0_i32_1 c1_i32 k0_t1
  let c511_i32 : BitVec 32 := 511#32
  let v30 : BitVec 32 := Scalar.addi v29 c511_i32
  let c512_i32 : BitVec 32 := 512#32
  let v31 : BitVec 32 := Scalar.divsi v30 c512_i32
  let c1_i32_25 : BitVec 32 := 1#32
  let arg14 : BitVec 32 := Scf.iv v31 c1_i32_25 k0_t2
  let c512_i32_27 : BitVec 32 := 512#32
  let v39 : BitVec 32 := Scalar.muli arg14 c512_i32_27
  let c0_i32_28 : BitVec 32 := 0#32
  ![arg12.toNat, v39.toNat, 0]
@[reducible] def k0_t3_loop (v29 : BitVec 32) : Scf.Loop 32 :=
  let c511_i32 : BitVec 32 := 511#32
  let v30 : BitVec 32 := Scalar.addi v29 c511_i32
  let c512_i32 : BitVec 32 := 512#32
  let v31 : BitVec 32 := Scalar.divsi v30 c512_i32
  let c4_i32 : BitVec 32 := 4#32
  let v32 : BitVec 32 := Scalar.subi c4_i32 v31
  let c1_i32_24 : BitVec 32 := 1#32
  let v34 : BitVec 32 := Scalar.divsi v32 c1_i32_24
  let v35 : BitVec 32 := Scalar.muli v34 c1_i32_24
  let v36 : BitVec 32 := Scalar.addi v31 v35
  let v33 : BitVec 32 := Scalar.addi v31 v32
  let c1_i32_26 : BitVec 32 := 1#32
  ⟨v36, v33, c1_i32_26⟩
def k0_off3 (k0_t1 : Fin k0_t1_loop.trips) (v29 : BitVec 32) (k0_t3 : Fin (k0_t3_loop v29).trips) : Fin 3 → Nat :=
  let c0_i32_1 : BitVec 32 := 0#32
  let c1_i32 : BitVec 32 := 1#32
  let arg12 : BitVec 32 := Scf.iv c0_i32_1 c1_i32 k0_t1
  let c511_i32 : BitVec 32 := 511#32
  let v30 : BitVec 32 := Scalar.addi v29 c511_i32
  let c512_i32 : BitVec 32 := 512#32
  let v31 : BitVec 32 := Scalar.divsi v30 c512_i32
  let c4_i32 : BitVec 32 := 4#32
  let v32 : BitVec 32 := Scalar.subi c4_i32 v31
  let c1_i32_24 : BitVec 32 := 1#32
  let v34 : BitVec 32 := Scalar.divsi v32 c1_i32_24
  let v35 : BitVec 32 := Scalar.muli v34 c1_i32_24
  let v36 : BitVec 32 := Scalar.addi v31 v35
  let c1_i32_26 : BitVec 32 := 1#32
  let arg14 : BitVec 32 := Scf.iv v36 c1_i32_26 k0_t3
  let c512_i32_27 : BitVec 32 := 512#32
  let v39 : BitVec 32 := Scalar.muli arg14 c512_i32_27
  let c0_i32_28 : BitVec 32 := 0#32
  ![arg12.toNat, v39.toNat, 0]

def k0_chk1 (k0_t1 : Fin k0_t1_loop.trips) (v29 : BitVec 32) : Prop :=
  ((k0_t2_loop v29).OK) ∧
  (∀ k0_t2 : Fin (k0_t2_loop v29).trips, ∀ a, (k0_off2 k0_t1 v29 k0_t2) a + S1x512x2048.size a ≤ S8x2048x2048.size a) ∧
  ((k0_t3_loop v29).OK) ∧
  (∀ k0_t3 : Fin (k0_t3_loop v29).trips, ∀ a, (k0_off3 k0_t1 v29 k0_t3) a + S1x512x2048.size a ≤ S8x2048x2048.size a)
theorem k0_t2_ok : ∀ (k0_t1 : Fin k0_t1_loop.trips) (v29 : BitVec 32) (k0_hw1 : k0_chk1 k0_t1 v29), (k0_t2_loop v29).OK := fun k0_t1 v29 k0_hw1 => k0_hw1.1
theorem k0_off2_inb : ∀ (k0_t1 : Fin k0_t1_loop.trips) (v29 : BitVec 32) (k0_hw1 : k0_chk1 k0_t1 v29) (k0_t2 : Fin (k0_t2_loop v29).trips), ∀ a, (k0_off2 k0_t1 v29 k0_t2) a + S1x512x2048.size a ≤ S8x2048x2048.size a := fun k0_t1 v29 k0_hw1 k0_t2 => k0_hw1.2.1 k0_t2
theorem k0_t3_ok : ∀ (k0_t1 : Fin k0_t1_loop.trips) (v29 : BitVec 32) (k0_hw1 : k0_chk1 k0_t1 v29), (k0_t3_loop v29).OK := fun k0_t1 v29 k0_hw1 => k0_hw1.2.2.1
theorem k0_off3_inb : ∀ (k0_t1 : Fin k0_t1_loop.trips) (v29 : BitVec 32) (k0_hw1 : k0_chk1 k0_t1 v29) (k0_t3 : Fin (k0_t3_loop v29).trips), ∀ a, (k0_off3 k0_t1 v29 k0_t3) a + S1x512x2048.size a ≤ S8x2048x2048.size a := fun k0_t1 v29 k0_hw1 k0_t3 => k0_hw1.2.2.2 k0_t3

@[reducible] def k0_t4_loop : Scf.Loop 32 :=
  let c0_i32_4 : BitVec 32 := 0#32
  let c32_i32 : BitVec 32 := 32#32
  let v6 : BitVec 32 := Scalar.addi c0_i32_4 c32_i32
  let c1_i32_5 : BitVec 32 := 1#32
  ⟨c0_i32_4, v6, c1_i32_5⟩
def k0_off4 (k0_t4 : Fin k0_t4_loop.trips) : Fin 1 → Nat :=
  let c0_i32_4 : BitVec 32 := 0#32
  let c1_i32_5 : BitVec 32 := 1#32
  let arg12 : BitVec 32 := Scf.iv c0_i32_4 c1_i32_5 k0_t4
  let c0_i32_24 : BitVec 32 := 0#32
  let v29 : BitVec 1 := Scalar.cmpi .sgt arg12 c0_i32_24
  let v30 : BitVec 32 := Scalar.extui v29
  let c0_i32_25 : BitVec 32 := 0#32
  let v31 : BitVec 1 := Scalar.cmpi .slt arg12 c0_i32_25
  let v32 : BitVec 32 := Scalar.extui v31
  let v33 : BitVec 32 := Scalar.subi v30 v32
  let c4_i32 : BitVec 32 := 4#32
  let c0_i32_26 : BitVec 32 := 0#32
  let v34 : BitVec 1 := Scalar.cmpi .sgt c4_i32 c0_i32_26
  let v35 : BitVec 32 := Scalar.extui v34
  let c0_i32_27 : BitVec 32 := 0#32
  let v36 : BitVec 1 := Scalar.cmpi .slt c4_i32 c0_i32_27
  let v37 : BitVec 32 := Scalar.extui v36
  let v38 : BitVec 32 := Scalar.subi v35 v37
  let v39 : BitVec 1 := Scalar.cmpi .ne v33 v38
  let v40 : BitVec 32 := Scalar.remsi arg12 c4_i32
  let c0_i32_28 : BitVec 32 := 0#32
  let v41 : BitVec 1 := Scalar.cmpi .ne v40 c0_i32_28
  let v42 : BitVec 1 := Scalar.andi v39 v41
  let v28 : BitVec 32 := Scalar.divsi arg12 c4_i32
  let c1_i32_29 : BitVec 32 := 1#32
  let v43 : BitVec 32 := Scalar.subi v28 c1_i32_29
  let v44 : BitVec 32 := Scalar.select v42 v43 v28
  let v56 : Index := Scalar.indexCast v44
  ![v56.toNat]
def k0_off5 (arg13 : BitVec 32) : Fin 1 → Nat :=
  let v63 : Index := Scalar.indexCast arg13
  ![v63.toNat]
def k0_cond1 (k0_t4 : Fin k0_t4_loop.trips) (v57 : BitVec 32) : BitVec 1 :=
  let c0_i32_4 : BitVec 32 := 0#32
  let c1_i32_5 : BitVec 32 := 1#32
  let arg12 : BitVec 32 := Scf.iv c0_i32_4 c1_i32_5 k0_t4
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi arg12 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c512_i32 : BitVec 32 := 512#32
  let v55 : BitVec 32 := Scalar.muli v54 c512_i32
  let v58 : BitVec 1 := Scalar.cmpi .slt v55 v57
  let v59 : BitVec 32 := Scalar.extui v58
  let c0_i32_36 : BitVec 32 := 0#32
  let v60 : BitVec 1 := Scalar.cmpi .ne v59 c0_i32_36
  v60

def k0_chk2 (k0_t4 : Fin k0_t4_loop.trips) (arg13 : BitVec 32) (v57 : BitVec 32) : Prop :=
  (∀ (k0_h1 : k0_cond1 k0_t4 v57 = 1#1), ∀ a, (k0_off5 arg13) a + S1.size a ≤ S33.size a)
theorem k0_off5_inb : ∀ (k0_t4 : Fin k0_t4_loop.trips) (arg13 : BitVec 32) (v57 : BitVec 32) (k0_hw2 : k0_chk2 k0_t4 arg13 v57), ∀ (k0_h1 : k0_cond1 k0_t4 v57 = 1#1), ∀ a, (k0_off5 arg13) a + S1.size a ≤ S33.size a := fun k0_t4 arg13 v57 k0_hw2 k0_h1 => k0_hw2 k0_h1

def k0_off6 (v28 : BitVec 32) (v29 : BitVec 32) : Fin 3 → Nat :=
  let c512_i32 : BitVec 32 := 512#32
  let v30 : BitVec 32 := Scalar.muli v29 c512_i32
  let c0_i32_30 : BitVec 32 := 0#32
  ![v28.toNat, v30.toNat, 0]
def k0_cond2 (v7 : BitVec 32) : BitVec 1 :=
  let c0_i32_7 : BitVec 32 := 0#32
  let v8 : BitVec 1 := Scalar.cmpi .sgt v7 c0_i32_7
  let v9 : BitVec 32 := Scalar.extui v8
  let c0_i32_8 : BitVec 32 := 0#32
  let v10 : BitVec 1 := Scalar.cmpi .ne v9 c0_i32_8
  v10

def k0_chk3 (v7 : BitVec 32) (v28 : BitVec 32) (v29 : BitVec 32) : Prop :=
  (∀ (k0_h2 : k0_cond2 v7 = 1#1), ∀ a, (k0_off6 v28 v29) a + S1x512x2048.size a ≤ S8x2048x2048.size a)
theorem k0_off6_inb : ∀ (v7 : BitVec 32) (v28 : BitVec 32) (v29 : BitVec 32) (k0_hw3 : k0_chk3 v7 v28 v29), ∀ (k0_h2 : k0_cond2 v7 = 1#1), ∀ a, (k0_off6 v28 v29) a + S1x512x2048.size a ≤ S8x2048x2048.size a := fun v7 v28 v29 k0_hw3 k0_h2 => k0_hw3 k0_h2

@[reducible] def k0_t5_loop (v7 : BitVec 32) : Scf.Loop 32 :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_12 : BitVec 32 := 1#32
  ⟨c0_i32_10, v15, c1_i32_12⟩

def k0_off7 (v7 : BitVec 32) (k0_t5 : Fin (k0_t5_loop v7).trips) : Fin 1 → Nat :=
  let c0_i32_10 : BitVec 32 := 0#32
  let c1_i32_12 : BitVec 32 := 1#32
  let arg12 : BitVec 32 := Scf.iv c0_i32_10 c1_i32_12 k0_t5
  let c1_i32_46 : BitVec 32 := 1#32
  let v91 : BitVec 32 := Scalar.addi arg12 c1_i32_46
  let v93 : Index := Scalar.indexCast v91
  ![v93.toNat]
def k0_cond3 (v7 : BitVec 32) (k0_t5 : Fin (k0_t5_loop v7).trips) : BitVec 1 :=
  let c0_i32_10 : BitVec 32 := 0#32
  let c1_i32_12 : BitVec 32 := 1#32
  let arg12 : BitVec 32 := Scf.iv c0_i32_10 c1_i32_12 k0_t5
  let c1_i32_25 : BitVec 32 := 1#32
  let v29 : BitVec 32 := Scalar.addi arg12 c1_i32_25
  let v30 : BitVec 1 := Scalar.cmpi .slt v29 v7
  let v31 : BitVec 32 := Scalar.extui v30
  let c0_i32_26 : BitVec 32 := 0#32
  let v32 : BitVec 1 := Scalar.cmpi .ne v31 c0_i32_26
  v32

def k0_off8 (v7 : BitVec 32) (k0_t5 : Fin (k0_t5_loop v7).trips) : Fin 1 → Nat :=
  let c1_i32_47 : BitVec 32 := 1#32
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  let v92 : BitVec 32 := Scalar.subi c1_i32_47 v28
  ![v92.toNat]
def k0_off9 (v7 : BitVec 32) (k0_t5 : Fin (k0_t5_loop v7).trips) : Fin 3 → Nat :=
  let c1_i32_47 : BitVec 32 := 1#32
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  let v92 : BitVec 32 := Scalar.subi c1_i32_47 v28
  let c0_i32_49 : BitVec 32 := 0#32
  let c0_i32_50 : BitVec 32 := 0#32
  ![v92.toNat, 0, 0]
def k0_off10 (v94 : BitVec 32) (v96 : BitVec 32) : Fin 3 → Nat :=
  let c512_i32_48 : BitVec 32 := 512#32
  let v97 : BitVec 32 := Scalar.muli v96 c512_i32_48
  let c0_i32_51 : BitVec 32 := 0#32
  ![v94.toNat, v97.toNat, 0]

def k0_chk5 (v7 : BitVec 32) (k0_t5 : Fin (k0_t5_loop v7).trips) (v94 : BitVec 32) (v96 : BitVec 32) : Prop :=
  (∀ (k0_h3 : k0_cond3 v7 k0_t5 = 1#1), ∀ a, (k0_off10 v94 v96) a + S1x512x2048.size a ≤ S8x2048x2048.size a)
theorem k0_off10_inb : ∀ (v7 : BitVec 32) (k0_t5 : Fin (k0_t5_loop v7).trips) (v94 : BitVec 32) (v96 : BitVec 32) (k0_hw5 : k0_chk5 v7 k0_t5 v94 v96), ∀ (k0_h3 : k0_cond3 v7 k0_t5 = 1#1), ∀ a, (k0_off10 v94 v96) a + S1x512x2048.size a ≤ S8x2048x2048.size a := fun v7 k0_t5 v94 v96 k0_hw5 k0_h3 => k0_hw5 k0_h3

def k0_off11 (v7 : BitVec 32) (k0_t5 : Fin (k0_t5_loop v7).trips) : Fin 1 → Nat :=
  let c0_i32_10 : BitVec 32 := 0#32
  let c1_i32_12 : BitVec 32 := 1#32
  let arg12 : BitVec 32 := Scf.iv c0_i32_10 c1_i32_12 k0_t5
  let v33 : Index := Scalar.indexCast arg12
  ![v33.toNat]
def k0_off12 (v7 : BitVec 32) (k0_t5 : Fin (k0_t5_loop v7).trips) : Fin 1 → Nat :=
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  ![v28.toNat]
def k0_off13 (v7 : BitVec 32) (k0_t5 : Fin (k0_t5_loop v7).trips) : Fin 3 → Nat :=
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  let c0_i32_27 : BitVec 32 := 0#32
  let c0_i32_28 : BitVec 32 := 0#32
  ![v28.toNat, 0, 0]
def k0_off14 (v34 : BitVec 32) (v36 : BitVec 32) : Fin 3 → Nat :=
  let c512_i32 : BitVec 32 := 512#32
  let v37 : BitVec 32 := Scalar.muli v36 c512_i32
  let c0_i32_29 : BitVec 32 := 0#32
  ![v34.toNat, v37.toNat, 0]

def k0_chk6 (v34 : BitVec 32) (v36 : BitVec 32) : Prop :=
  (∀ a, (k0_off14 v34 v36) a + S1x512x2048.size a ≤ S8x2048x2048.size a)
theorem k0_off14_inb : ∀ (v34 : BitVec 32) (v36 : BitVec 32) (k0_hw6 : k0_chk6 v34 v36), ∀ a, (k0_off14 v34 v36) a + S1x512x2048.size a ≤ S8x2048x2048.size a := fun v34 v36 k0_hw6 => k0_hw6

def k0_cond4 (v7 : BitVec 32) (k0_t5 : Fin (k0_t5_loop v7).trips) : BitVec 1 :=
  let c0_i32_10 : BitVec 32 := 0#32
  let c1_i32_12 : BitVec 32 := 1#32
  let arg12 : BitVec 32 := Scf.iv c0_i32_10 c1_i32_12 k0_t5
  let c2_i32_30 : BitVec 32 := 2#32
  let v44 : BitVec 1 := Scalar.cmpi .sge arg12 c2_i32_30
  let v45 : BitVec 32 := Scalar.extui v44
  let c0_i32_31 : BitVec 32 := 0#32
  let v46 : BitVec 1 := Scalar.cmpi .ne v45 c0_i32_31
  v46

def k0_off15 (v7 : BitVec 32) (k0_t5 : Fin (k0_t5_loop v7).trips) : Fin 1 → Nat :=
  let c0_i32_10 : BitVec 32 := 0#32
  let c1_i32_12 : BitVec 32 := 1#32
  let arg12 : BitVec 32 := Scf.iv c0_i32_10 c1_i32_12 k0_t5
  let c2_i32_46 : BitVec 32 := 2#32
  let v91 : BitVec 32 := Scalar.subi arg12 c2_i32_46
  let v92 : Index := Scalar.indexCast v91
  ![v92.toNat]
def k0_off16 (v7 : BitVec 32) (k0_t5 : Fin (k0_t5_loop v7).trips) : Fin 1 → Nat :=
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  ![v28.toNat]
def k0_off17 (v93 : BitVec 32) (v95 : BitVec 32) : Fin 3 → Nat :=
  let c512_i32_47 : BitVec 32 := 512#32
  let v96 : BitVec 32 := Scalar.muli v95 c512_i32_47
  let c0_i32_48 : BitVec 32 := 0#32
  ![v93.toNat, v96.toNat, 0]

def k0_chk7 (v7 : BitVec 32) (k0_t5 : Fin (k0_t5_loop v7).trips) (v93 : BitVec 32) (v95 : BitVec 32) : Prop :=
  (∀ (k0_h4 : k0_cond4 v7 k0_t5 = 1#1), ∀ a, (k0_off17 v93 v95) a + S1x512x2048.size a ≤ S8x2048x2048.size a)
theorem k0_off17_inb : ∀ (v7 : BitVec 32) (k0_t5 : Fin (k0_t5_loop v7).trips) (v93 : BitVec 32) (v95 : BitVec 32) (k0_hw7 : k0_chk7 v7 k0_t5 v93 v95), ∀ (k0_h4 : k0_cond4 v7 k0_t5 = 1#1), ∀ a, (k0_off17 v93 v95) a + S1x512x2048.size a ≤ S8x2048x2048.size a := fun v7 k0_t5 v93 v95 k0_hw7 k0_h4 => k0_hw7 k0_h4

def k0_off18 (v7 : BitVec 32) (k0_t5 : Fin (k0_t5_loop v7).trips) : Fin 3 → Nat :=
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  let c0_i32_49 : BitVec 32 := 0#32
  let c0_i32_50 : BitVec 32 := 0#32
  ![v28.toNat, 0, 0]
def k0_off19 (v7 : BitVec 32) (k0_t5 : Fin (k0_t5_loop v7).trips) : Fin 1 → Nat :=
  let c0_i32_10 : BitVec 32 := 0#32
  let c1_i32_12 : BitVec 32 := 1#32
  let arg12 : BitVec 32 := Scf.iv c0_i32_10 c1_i32_12 k0_t5
  let v47 : Index := Scalar.indexCast arg12
  ![v47.toNat]
def k0_off20 (v48 : BitVec 32) : Fin 1 → Nat :=
  let v49 : Index := Scalar.indexCast v48
  ![v49.toNat]

def k0_chk8 (v48 : BitVec 32) : Prop :=
  (∀ a, (k0_off20 v48) a + S1.size a ≤ S8.size a)
theorem k0_off20_inb : ∀ (v48 : BitVec 32) (k0_hw8 : k0_chk8 v48), ∀ a, (k0_off20 v48) a + S1.size a ≤ S8.size a := fun v48 k0_hw8 => k0_hw8

def k0_off21 (v7 : BitVec 32) (k0_t5 : Fin (k0_t5_loop v7).trips) : Fin 1 → Nat :=
  let c0_i32_10 : BitVec 32 := 0#32
  let c1_i32_12 : BitVec 32 := 1#32
  let arg12 : BitVec 32 := Scf.iv c0_i32_10 c1_i32_12 k0_t5
  let v51 : Index := Scalar.indexCast arg12
  ![v51.toNat]
def k0_off22 (v7 : BitVec 32) (k0_t5 : Fin (k0_t5_loop v7).trips) : Fin 3 → Nat :=
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  let v55 : Index := Scalar.indexCast v28
  let c0_33 : Index := 0#32
  let c0_34 : Index := 0#32
  ![v55.toNat, 0, 0]
def k0_off23 (v7 : BitVec 32) (k0_t5 : Fin (k0_t5_loop v7).trips) : Fin 1 → Nat :=
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  ![v28.toNat]
def k0_off24 (v81 : BitVec 32) (v83 : BitVec 32) : Fin 3 → Nat :=
  let c512_i32_42 : BitVec 32 := 512#32
  let v84 : BitVec 32 := Scalar.muli v83 c512_i32_42
  let c0_i32_43 : BitVec 32 := 0#32
  ![v81.toNat, v84.toNat, 0]

def k0_chk9 (v81 : BitVec 32) (v83 : BitVec 32) : Prop :=
  (∀ a, (k0_off24 v81 v83) a + S1x512x2048.size a ≤ S8x2048x2048.size a)
theorem k0_off24_inb : ∀ (v81 : BitVec 32) (v83 : BitVec 32) (k0_hw9 : k0_chk9 v81 v83), ∀ a, (k0_off24 v81 v83) a + S1x512x2048.size a ≤ S8x2048x2048.size a := fun v81 v83 k0_hw9 => k0_hw9

def k0_off25 (v7 : BitVec 32) (k0_t5 : Fin (k0_t5_loop v7).trips) : Fin 3 → Nat :=
  let c0_i32_10 : BitVec 32 := 0#32
  let c1_i32_12 : BitVec 32 := 1#32
  let arg12 : BitVec 32 := Scf.iv c0_i32_10 c1_i32_12 k0_t5
  let c2_i32_24 : BitVec 32 := 2#32
  let v28 : BitVec 32 := Scalar.remsi arg12 c2_i32_24
  let c0_i32_44 : BitVec 32 := 0#32
  let c0_i32_45 : BitVec 32 := 0#32
  ![v28.toNat, 0, 0]
@[reducible] def k0_t6_loop (v7 : BitVec 32) : Scf.Loop 32 :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let v12 : BitVec 32 := Scalar.addi c0_i32_10 v11
  let c1_i32_13 : BitVec 32 := 1#32
  ⟨v15, v12, c1_i32_13⟩
def k0_off26 (v7 : BitVec 32) (k0_t6 : Fin (k0_t6_loop v7).trips) : Fin 1 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c1_i32_46 : BitVec 32 := 1#32
  let v91 : BitVec 32 := Scalar.addi arg12 c1_i32_46
  let v93 : Index := Scalar.indexCast v91
  ![v93.toNat]
def k0_cond5 (v7 : BitVec 32) (k0_t6 : Fin (k0_t6_loop v7).trips) : BitVec 1 :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c1_i32_25 : BitVec 32 := 1#32
  let v29 : BitVec 32 := Scalar.addi arg12 c1_i32_25
  let v30 : BitVec 1 := Scalar.cmpi .slt v29 v7
  let v31 : BitVec 32 := Scalar.extui v30
  let c0_i32_26 : BitVec 32 := 0#32
  let v32 : BitVec 1 := Scalar.cmpi .ne v31 c0_i32_26
  v32

def k0_off27 (v7 : BitVec 32) (k0_t6 : Fin (k0_t6_loop v7).trips) : Fin 1 → Nat :=
  let c1_i32_47 : BitVec 32 := 1#32
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  let v92 : BitVec 32 := Scalar.subi c1_i32_47 v28
  ![v92.toNat]
def k0_off28 (v7 : BitVec 32) (k0_t6 : Fin (k0_t6_loop v7).trips) : Fin 3 → Nat :=
  let c1_i32_47 : BitVec 32 := 1#32
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  let v92 : BitVec 32 := Scalar.subi c1_i32_47 v28
  let c0_i32_49 : BitVec 32 := 0#32
  let c0_i32_50 : BitVec 32 := 0#32
  ![v92.toNat, 0, 0]
def k0_off29 (v94 : BitVec 32) (v96 : BitVec 32) : Fin 3 → Nat :=
  let c512_i32_48 : BitVec 32 := 512#32
  let v97 : BitVec 32 := Scalar.muli v96 c512_i32_48
  let c0_i32_51 : BitVec 32 := 0#32
  ![v94.toNat, v97.toNat, 0]

def k0_chk10 (v7 : BitVec 32) (k0_t6 : Fin (k0_t6_loop v7).trips) (v94 : BitVec 32) (v96 : BitVec 32) : Prop :=
  (∀ (k0_h5 : k0_cond5 v7 k0_t6 = 1#1), ∀ a, (k0_off29 v94 v96) a + S1x512x2048.size a ≤ S8x2048x2048.size a)
theorem k0_off29_inb : ∀ (v7 : BitVec 32) (k0_t6 : Fin (k0_t6_loop v7).trips) (v94 : BitVec 32) (v96 : BitVec 32) (k0_hw10 : k0_chk10 v7 k0_t6 v94 v96), ∀ (k0_h5 : k0_cond5 v7 k0_t6 = 1#1), ∀ a, (k0_off29 v94 v96) a + S1x512x2048.size a ≤ S8x2048x2048.size a := fun v7 k0_t6 v94 v96 k0_hw10 k0_h5 => k0_hw10 k0_h5

def k0_off30 (v7 : BitVec 32) (k0_t6 : Fin (k0_t6_loop v7).trips) : Fin 1 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let v33 : Index := Scalar.indexCast arg12
  ![v33.toNat]
def k0_off31 (v7 : BitVec 32) (k0_t6 : Fin (k0_t6_loop v7).trips) : Fin 1 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  ![v28.toNat]
def k0_off32 (v7 : BitVec 32) (k0_t6 : Fin (k0_t6_loop v7).trips) : Fin 3 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  let c0_i32_27 : BitVec 32 := 0#32
  let c0_i32_28 : BitVec 32 := 0#32
  ![v28.toNat, 0, 0]
def k0_off33 (v34 : BitVec 32) (v36 : BitVec 32) : Fin 3 → Nat :=
  let c512_i32 : BitVec 32 := 512#32
  let v37 : BitVec 32 := Scalar.muli v36 c512_i32
  let c0_i32_29 : BitVec 32 := 0#32
  ![v34.toNat, v37.toNat, 0]

def k0_chk11 (v34 : BitVec 32) (v36 : BitVec 32) : Prop :=
  (∀ a, (k0_off33 v34 v36) a + S1x512x2048.size a ≤ S8x2048x2048.size a)
theorem k0_off33_inb : ∀ (v34 : BitVec 32) (v36 : BitVec 32) (k0_hw11 : k0_chk11 v34 v36), ∀ a, (k0_off33 v34 v36) a + S1x512x2048.size a ≤ S8x2048x2048.size a := fun v34 v36 k0_hw11 => k0_hw11

def k0_off34 (v7 : BitVec 32) (k0_t6 : Fin (k0_t6_loop v7).trips) : Fin 1 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_46 : BitVec 32 := 2#32
  let v91 : BitVec 32 := Scalar.subi arg12 c2_i32_46
  let v92 : Index := Scalar.indexCast v91
  ![v92.toNat]
def k0_cond6 (v7 : BitVec 32) (k0_t6 : Fin (k0_t6_loop v7).trips) : BitVec 1 :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_30 : BitVec 32 := 2#32
  let v44 : BitVec 1 := Scalar.cmpi .sge arg12 c2_i32_30
  let v45 : BitVec 32 := Scalar.extui v44
  let c0_i32_31 : BitVec 32 := 0#32
  let v46 : BitVec 1 := Scalar.cmpi .ne v45 c0_i32_31
  v46

def k0_off35 (v7 : BitVec 32) (k0_t6 : Fin (k0_t6_loop v7).trips) : Fin 1 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  ![v28.toNat]
def k0_off36 (v93 : BitVec 32) (v95 : BitVec 32) : Fin 3 → Nat :=
  let c512_i32_47 : BitVec 32 := 512#32
  let v96 : BitVec 32 := Scalar.muli v95 c512_i32_47
  let c0_i32_48 : BitVec 32 := 0#32
  ![v93.toNat, v96.toNat, 0]

def k0_chk12 (v7 : BitVec 32) (k0_t6 : Fin (k0_t6_loop v7).trips) (v93 : BitVec 32) (v95 : BitVec 32) : Prop :=
  (∀ (k0_h6 : k0_cond6 v7 k0_t6 = 1#1), ∀ a, (k0_off36 v93 v95) a + S1x512x2048.size a ≤ S8x2048x2048.size a)
theorem k0_off36_inb : ∀ (v7 : BitVec 32) (k0_t6 : Fin (k0_t6_loop v7).trips) (v93 : BitVec 32) (v95 : BitVec 32) (k0_hw12 : k0_chk12 v7 k0_t6 v93 v95), ∀ (k0_h6 : k0_cond6 v7 k0_t6 = 1#1), ∀ a, (k0_off36 v93 v95) a + S1x512x2048.size a ≤ S8x2048x2048.size a := fun v7 k0_t6 v93 v95 k0_hw12 k0_h6 => k0_hw12 k0_h6

def k0_off37 (v7 : BitVec 32) (k0_t6 : Fin (k0_t6_loop v7).trips) : Fin 3 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  let c0_i32_49 : BitVec 32 := 0#32
  let c0_i32_50 : BitVec 32 := 0#32
  ![v28.toNat, 0, 0]
def k0_off38 (v7 : BitVec 32) (k0_t6 : Fin (k0_t6_loop v7).trips) : Fin 1 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let v47 : Index := Scalar.indexCast arg12
  ![v47.toNat]
def k0_off39 (v48 : BitVec 32) : Fin 1 → Nat :=
  let v49 : Index := Scalar.indexCast v48
  ![v49.toNat]

def k0_chk13 (v48 : BitVec 32) : Prop :=
  (∀ a, (k0_off39 v48) a + S1.size a ≤ S8.size a)
theorem k0_off39_inb : ∀ (v48 : BitVec 32) (k0_hw13 : k0_chk13 v48), ∀ a, (k0_off39 v48) a + S1.size a ≤ S8.size a := fun v48 k0_hw13 => k0_hw13

def k0_off40 (v7 : BitVec 32) (k0_t6 : Fin (k0_t6_loop v7).trips) : Fin 1 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let v51 : Index := Scalar.indexCast arg12
  ![v51.toNat]
def k0_off41 (v7 : BitVec 32) (k0_t6 : Fin (k0_t6_loop v7).trips) : Fin 3 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  let v55 : Index := Scalar.indexCast v28
  let c0_33 : Index := 0#32
  let c0_34 : Index := 0#32
  ![v55.toNat, 0, 0]
def k0_off42 (v7 : BitVec 32) (k0_t6 : Fin (k0_t6_loop v7).trips) : Fin 1 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  ![v28.toNat]
def k0_off43 (v81 : BitVec 32) (v83 : BitVec 32) : Fin 3 → Nat :=
  let c512_i32_42 : BitVec 32 := 512#32
  let v84 : BitVec 32 := Scalar.muli v83 c512_i32_42
  let c0_i32_43 : BitVec 32 := 0#32
  ![v81.toNat, v84.toNat, 0]

def k0_chk14 (v81 : BitVec 32) (v83 : BitVec 32) : Prop :=
  (∀ a, (k0_off43 v81 v83) a + S1x512x2048.size a ≤ S8x2048x2048.size a)
theorem k0_off43_inb : ∀ (v81 : BitVec 32) (v83 : BitVec 32) (k0_hw14 : k0_chk14 v81 v83), ∀ a, (k0_off43 v81 v83) a + S1x512x2048.size a ≤ S8x2048x2048.size a := fun v81 v83 k0_hw14 => k0_hw14

def k0_off44 (v7 : BitVec 32) (k0_t6 : Fin (k0_t6_loop v7).trips) : Fin 3 → Nat :=
  let c0_i32_10 : BitVec 32 := 0#32
  let v11 : BitVec 32 := Scalar.subi v7 c0_i32_10
  let c1_i32_11 : BitVec 32 := 1#32
  let v13 : BitVec 32 := Scalar.divsi v11 c1_i32_11
  let v14 : BitVec 32 := Scalar.muli v13 c1_i32_11
  let v15 : BitVec 32 := Scalar.addi c0_i32_10 v14
  let c1_i32_13 : BitVec 32 := 1#32
  let arg12 : BitVec 32 := Scf.iv v15 c1_i32_13 k0_t6
  let c2_i32_24 : BitVec 32 := 2#32
  let v28 : BitVec 32 := Scalar.remsi arg12 c2_i32_24
  let c0_i32_44 : BitVec 32 := 0#32
  let c0_i32_45 : BitVec 32 := 0#32
  ![v28.toNat, 0, 0]
@[reducible] def k0_t7_loop (v7 : BitVec 32) : Scf.Loop 32 :=
  let c2_i32 : BitVec 32 := 2#32
  let v16 : BitVec 32 := Scalar.subi v7 c2_i32
  let c0_i32_14 : BitVec 32 := 0#32
  let v17 : BitVec 32 := Scalar.maxsi v16 c0_i32_14
  let v18 : BitVec 32 := Scalar.subi v7 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_17 : BitVec 32 := 1#32
  ⟨v17, v22, c1_i32_17⟩
def k0_off45 (v7 : BitVec 32) (k0_t7 : Fin (k0_t7_loop v7).trips) : Fin 1 → Nat :=
  let c2_i32 : BitVec 32 := 2#32
  let v16 : BitVec 32 := Scalar.subi v7 c2_i32
  let c0_i32_14 : BitVec 32 := 0#32
  let v17 : BitVec 32 := Scalar.maxsi v16 c0_i32_14
  let c1_i32_17 : BitVec 32 := 1#32
  let arg12 : BitVec 32 := Scf.iv v17 c1_i32_17 k0_t7
  let v29 : Index := Scalar.indexCast arg12
  ![v29.toNat]
def k0_off46 (v7 : BitVec 32) (k0_t7 : Fin (k0_t7_loop v7).trips) : Fin 1 → Nat :=
  let c2_i32 : BitVec 32 := 2#32
  let v16 : BitVec 32 := Scalar.subi v7 c2_i32
  let c0_i32_14 : BitVec 32 := 0#32
  let v17 : BitVec 32 := Scalar.maxsi v16 c0_i32_14
  let c1_i32_17 : BitVec 32 := 1#32
  let arg12 : BitVec 32 := Scf.iv v17 c1_i32_17 k0_t7
  let c2_i32_24 : BitVec 32 := 2#32
  let v28 : BitVec 32 := Scalar.remsi arg12 c2_i32_24
  ![v28.toNat]
def k0_off47 (v30 : BitVec 32) (v32 : BitVec 32) : Fin 3 → Nat :=
  let c512_i32 : BitVec 32 := 512#32
  let v33 : BitVec 32 := Scalar.muli v32 c512_i32
  let c0_i32_25 : BitVec 32 := 0#32
  ![v30.toNat, v33.toNat, 0]

def k0_chk15 (v30 : BitVec 32) (v32 : BitVec 32) : Prop :=
  (∀ a, (k0_off47 v30 v32) a + S1x512x2048.size a ≤ S8x2048x2048.size a)
theorem k0_off47_inb : ∀ (v30 : BitVec 32) (v32 : BitVec 32) (k0_hw15 : k0_chk15 v30 v32), ∀ a, (k0_off47 v30 v32) a + S1x512x2048.size a ≤ S8x2048x2048.size a := fun v30 v32 k0_hw15 => k0_hw15

def k0_off48 (v7 : BitVec 32) (k0_t7 : Fin (k0_t7_loop v7).trips) : Fin 3 → Nat :=
  let c2_i32 : BitVec 32 := 2#32
  let v16 : BitVec 32 := Scalar.subi v7 c2_i32
  let c0_i32_14 : BitVec 32 := 0#32
  let v17 : BitVec 32 := Scalar.maxsi v16 c0_i32_14
  let c1_i32_17 : BitVec 32 := 1#32
  let arg12 : BitVec 32 := Scf.iv v17 c1_i32_17 k0_t7
  let c2_i32_24 : BitVec 32 := 2#32
  let v28 : BitVec 32 := Scalar.remsi arg12 c2_i32_24
  let c0_i32_26 : BitVec 32 := 0#32
  let c0_i32_27 : BitVec 32 := 0#32
  ![v28.toNat, 0, 0]
@[reducible] def k0_t8_loop (v7 : BitVec 32) : Scf.Loop 32 :=
  let c2_i32 : BitVec 32 := 2#32
  let v16 : BitVec 32 := Scalar.subi v7 c2_i32
  let c0_i32_14 : BitVec 32 := 0#32
  let v17 : BitVec 32 := Scalar.maxsi v16 c0_i32_14
  let v18 : BitVec 32 := Scalar.subi v7 v17
  let c1_i32_16 : BitVec 32 := 1#32
  let v20 : BitVec 32 := Scalar.divsi v18 c1_i32_16
  let v21 : BitVec 32 := Scalar.muli v20 c1_i32_16
  let v22 : BitVec 32 := Scalar.addi v17 v21
  let v19 : BitVec 32 := Scalar.addi v17 v18
  let c1_i32_18 : BitVec 32 := 1#32
  ⟨v22, v19, c1_i32_18⟩
def k0_off49 (v7 : BitVec 32) (k0_t8 : Fin (k0_t8_loop v7).trips) : Fin 1 → Nat :=
  let c2_i32 : BitVec 32 := 2#32
  let v16 : BitVec 32 := Scalar.subi v7 c2_i32
  let c0_i32_14 : BitVec 32 := 0#32
  let v17 : BitVec 32 := Scalar.maxsi v16 c0_i32_14
  let v18 : BitVec 32 := Scalar.subi v7 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg12 : BitVec 32 := Scf.iv v22 c1_i32_18 k0_t8
  let v29 : Index := Scalar.indexCast arg12
  ![v29.toNat]
def k0_off50 (v7 : BitVec 32) (k0_t8 : Fin (k0_t8_loop v7).trips) : Fin 1 → Nat :=
  let c2_i32 : BitVec 32 := 2#32
  let v16 : BitVec 32 := Scalar.subi v7 c2_i32
  let c0_i32_14 : BitVec 32 := 0#32
  let v17 : BitVec 32 := Scalar.maxsi v16 c0_i32_14
  let v18 : BitVec 32 := Scalar.subi v7 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg12 : BitVec 32 := Scf.iv v22 c1_i32_18 k0_t8
  let c2_i32_24 : BitVec 32 := 2#32
  let v28 : BitVec 32 := Scalar.remsi arg12 c2_i32_24
  ![v28.toNat]
def k0_off51 (v30 : BitVec 32) (v32 : BitVec 32) : Fin 3 → Nat :=
  let c512_i32 : BitVec 32 := 512#32
  let v33 : BitVec 32 := Scalar.muli v32 c512_i32
  let c0_i32_25 : BitVec 32 := 0#32
  ![v30.toNat, v33.toNat, 0]

def k0_chk16 (v30 : BitVec 32) (v32 : BitVec 32) : Prop :=
  (∀ a, (k0_off51 v30 v32) a + S1x512x2048.size a ≤ S8x2048x2048.size a)
theorem k0_off51_inb : ∀ (v30 : BitVec 32) (v32 : BitVec 32) (k0_hw16 : k0_chk16 v30 v32), ∀ a, (k0_off51 v30 v32) a + S1x512x2048.size a ≤ S8x2048x2048.size a := fun v30 v32 k0_hw16 => k0_hw16

def k0_off52 (v7 : BitVec 32) (k0_t8 : Fin (k0_t8_loop v7).trips) : Fin 3 → Nat :=
  let c2_i32 : BitVec 32 := 2#32
  let v16 : BitVec 32 := Scalar.subi v7 c2_i32
  let c0_i32_14 : BitVec 32 := 0#32
  let v17 : BitVec 32 := Scalar.maxsi v16 c0_i32_14
  let v18 : BitVec 32 := Scalar.subi v7 v17
  let c1_i32_16 : BitVec 32 := 1#32
  let v20 : BitVec 32 := Scalar.divsi v18 c1_i32_16
  let v21 : BitVec 32 := Scalar.muli v20 c1_i32_16
  let v22 : BitVec 32 := Scalar.addi v17 v21
  let c1_i32_18 : BitVec 32 := 1#32
  let arg12 : BitVec 32 := Scf.iv v22 c1_i32_18 k0_t8
  let c2_i32_24 : BitVec 32 := 2#32
  let v28 : BitVec 32 := Scalar.remsi arg12 c2_i32_24
  let c0_i32_26 : BitVec 32 := 0#32
  let c0_i32_27 : BitVec 32 := 0#32
  ![v28.toNat, 0, 0]

def k0_chk4_0 (v7 : BitVec 32) : Prop :=
  ((k0_t5_loop v7).OK) ∧
  (∀ k0_t5 : Fin (k0_t5_loop v7).trips, ∀ (k0_h3 : k0_cond3 v7 k0_t5 = 1#1), ∀ a, (k0_off7 v7 k0_t5) a + S1.size a ≤ S33.size a) ∧
  (∀ k0_t5 : Fin (k0_t5_loop v7).trips, ∀ (k0_h3 : k0_cond3 v7 k0_t5 = 1#1), ∀ a, (k0_off8 v7 k0_t5) a + S1.size a ≤ S2.size a) ∧
  (∀ k0_t5 : Fin (k0_t5_loop v7).trips, ∀ (k0_h3 : k0_cond3 v7 k0_t5 = 1#1), ∀ a, (k0_off9 v7 k0_t5) a + S1x512x2048.size a ≤ S2x512x2048.size a) ∧
  (∀ k0_t5 : Fin (k0_t5_loop v7).trips, ∀ a, (k0_off11 v7 k0_t5) a + S1.size a ≤ S33.size a) ∧
  (∀ k0_t5 : Fin (k0_t5_loop v7).trips, ∀ a, (k0_off12 v7 k0_t5) a + S1.size a ≤ S2.size a) ∧
  (∀ k0_t5 : Fin (k0_t5_loop v7).trips, ∀ a, (k0_off13 v7 k0_t5) a + S1x512x2048.size a ≤ S2x512x2048.size a) ∧
  (∀ k0_t5 : Fin (k0_t5_loop v7).trips, ∀ (k0_h4 : k0_cond4 v7 k0_t5 = 1#1), ∀ a, (k0_off15 v7 k0_t5) a + S1.size a ≤ S33.size a) ∧
  (∀ k0_t5 : Fin (k0_t5_loop v7).trips, ∀ (k0_h4 : k0_cond4 v7 k0_t5 = 1#1), ∀ a, (k0_off16 v7 k0_t5) a + S1.size a ≤ S2.size a) ∧
  (∀ k0_t5 : Fin (k0_t5_loop v7).trips, ∀ (k0_h4 : k0_cond4 v7 k0_t5 = 1#1), ∀ a, (k0_off18 v7 k0_t5) a + S1x512x2048.size a ≤ S2x512x2048.size a) ∧
  (∀ k0_t5 : Fin (k0_t5_loop v7).trips, ∀ a, (k0_off19 v7 k0_t5) a + S1.size a ≤ S33.size a) ∧
  (∀ k0_t5 : Fin (k0_t5_loop v7).trips, ∀ a, (k0_off21 v7 k0_t5) a + S1.size a ≤ S33.size a) ∧
  (∀ k0_t5 : Fin (k0_t5_loop v7).trips, ∀ a, (k0_off22 v7 k0_t5) a + S1x512x2048.size a ≤ S2x512x2048.size a) ∧
  (∀ k0_t5 : Fin (k0_t5_loop v7).trips, ∀ a, (k0_off23 v7 k0_t5) a + S1.size a ≤ S2.size a) ∧
  (∀ k0_t5 : Fin (k0_t5_loop v7).trips, ∀ a, (k0_off25 v7 k0_t5) a + S1x512x2048.size a ≤ S2x512x2048.size a) ∧
  ((k0_t6_loop v7).OK) ∧
  (∀ k0_t6 : Fin (k0_t6_loop v7).trips, ∀ (k0_h5 : k0_cond5 v7 k0_t6 = 1#1), ∀ a, (k0_off26 v7 k0_t6) a + S1.size a ≤ S33.size a) ∧
  (∀ k0_t6 : Fin (k0_t6_loop v7).trips, ∀ (k0_h5 : k0_cond5 v7 k0_t6 = 1#1), ∀ a, (k0_off27 v7 k0_t6) a + S1.size a ≤ S2.size a) ∧
  (∀ k0_t6 : Fin (k0_t6_loop v7).trips, ∀ (k0_h5 : k0_cond5 v7 k0_t6 = 1#1), ∀ a, (k0_off28 v7 k0_t6) a + S1x512x2048.size a ≤ S2x512x2048.size a) ∧
  (∀ k0_t6 : Fin (k0_t6_loop v7).trips, ∀ a, (k0_off30 v7 k0_t6) a + S1.size a ≤ S33.size a) ∧
  (∀ k0_t6 : Fin (k0_t6_loop v7).trips, ∀ a, (k0_off31 v7 k0_t6) a + S1.size a ≤ S2.size a) ∧
  (∀ k0_t6 : Fin (k0_t6_loop v7).trips, ∀ a, (k0_off32 v7 k0_t6) a + S1x512x2048.size a ≤ S2x512x2048.size a) ∧
  (∀ k0_t6 : Fin (k0_t6_loop v7).trips, ∀ (k0_h6 : k0_cond6 v7 k0_t6 = 1#1), ∀ a, (k0_off34 v7 k0_t6) a + S1.size a ≤ S33.size a) ∧
  (∀ k0_t6 : Fin (k0_t6_loop v7).trips, ∀ (k0_h6 : k0_cond6 v7 k0_t6 = 1#1), ∀ a, (k0_off35 v7 k0_t6) a + S1.size a ≤ S2.size a) ∧
  (∀ k0_t6 : Fin (k0_t6_loop v7).trips, ∀ (k0_h6 : k0_cond6 v7 k0_t6 = 1#1), ∀ a, (k0_off37 v7 k0_t6) a + S1x512x2048.size a ≤ S2x512x2048.size a) ∧
  (∀ k0_t6 : Fin (k0_t6_loop v7).trips, ∀ a, (k0_off38 v7 k0_t6) a + S1.size a ≤ S33.size a) ∧
  (∀ k0_t6 : Fin (k0_t6_loop v7).trips, ∀ a, (k0_off40 v7 k0_t6) a + S1.size a ≤ S33.size a) ∧
  (∀ k0_t6 : Fin (k0_t6_loop v7).trips, ∀ a, (k0_off41 v7 k0_t6) a + S1x512x2048.size a ≤ S2x512x2048.size a) ∧
  (∀ k0_t6 : Fin (k0_t6_loop v7).trips, ∀ a, (k0_off42 v7 k0_t6) a + S1.size a ≤ S2.size a) ∧
  (∀ k0_t6 : Fin (k0_t6_loop v7).trips, ∀ a, (k0_off44 v7 k0_t6) a + S1x512x2048.size a ≤ S2x512x2048.size a) ∧
  ((k0_t7_loop v7).OK) ∧
  (∀ k0_t7 : Fin (k0_t7_loop v7).trips, ∀ a, (k0_off45 v7 k0_t7) a + S1.size a ≤ S33.size a)
def k0_chk4_1 (v7 : BitVec 32) : Prop :=
  (∀ k0_t7 : Fin (k0_t7_loop v7).trips, ∀ a, (k0_off46 v7 k0_t7) a + S1.size a ≤ S2.size a) ∧
  (∀ k0_t7 : Fin (k0_t7_loop v7).trips, ∀ a, (k0_off48 v7 k0_t7) a + S1x512x2048.size a ≤ S2x512x2048.size a) ∧
  ((k0_t8_loop v7).OK) ∧
  (∀ k0_t8 : Fin (k0_t8_loop v7).trips, ∀ a, (k0_off49 v7 k0_t8) a + S1.size a ≤ S33.size a) ∧
  (∀ k0_t8 : Fin (k0_t8_loop v7).trips, ∀ a, (k0_off50 v7 k0_t8) a + S1.size a ≤ S2.size a) ∧
  (∀ k0_t8 : Fin (k0_t8_loop v7).trips, ∀ a, (k0_off52 v7 k0_t8) a + S1x512x2048.size a ≤ S2x512x2048.size a)
def k0_chk4 (v7 : BitVec 32) : Prop :=
  k0_chk4_0 v7 ∧
  k0_chk4_1 v7
theorem k0_t5_ok : ∀ (v7 : BitVec 32) (k0_hw4 : k0_chk4 v7), (k0_t5_loop v7).OK := fun v7 k0_hw4 => k0_hw4.1.1
theorem k0_off7_inb : ∀ (v7 : BitVec 32) (k0_hw4 : k0_chk4 v7) (k0_t5 : Fin (k0_t5_loop v7).trips), ∀ (k0_h3 : k0_cond3 v7 k0_t5 = 1#1), ∀ a, (k0_off7 v7 k0_t5) a + S1.size a ≤ S33.size a := fun v7 k0_hw4 k0_t5 k0_h3 => k0_hw4.1.2.1 k0_t5 k0_h3
theorem k0_off8_inb : ∀ (v7 : BitVec 32) (k0_hw4 : k0_chk4 v7) (k0_t5 : Fin (k0_t5_loop v7).trips), ∀ (k0_h3 : k0_cond3 v7 k0_t5 = 1#1), ∀ a, (k0_off8 v7 k0_t5) a + S1.size a ≤ S2.size a := fun v7 k0_hw4 k0_t5 k0_h3 => k0_hw4.1.2.2.1 k0_t5 k0_h3
theorem k0_off9_inb : ∀ (v7 : BitVec 32) (k0_hw4 : k0_chk4 v7) (k0_t5 : Fin (k0_t5_loop v7).trips), ∀ (k0_h3 : k0_cond3 v7 k0_t5 = 1#1), ∀ a, (k0_off9 v7 k0_t5) a + S1x512x2048.size a ≤ S2x512x2048.size a := fun v7 k0_hw4 k0_t5 k0_h3 => k0_hw4.1.2.2.2.1 k0_t5 k0_h3
theorem k0_off11_inb : ∀ (v7 : BitVec 32) (k0_hw4 : k0_chk4 v7) (k0_t5 : Fin (k0_t5_loop v7).trips), ∀ a, (k0_off11 v7 k0_t5) a + S1.size a ≤ S33.size a := fun v7 k0_hw4 k0_t5 => k0_hw4.1.2.2.2.2.1 k0_t5
theorem k0_off12_inb : ∀ (v7 : BitVec 32) (k0_hw4 : k0_chk4 v7) (k0_t5 : Fin (k0_t5_loop v7).trips), ∀ a, (k0_off12 v7 k0_t5) a + S1.size a ≤ S2.size a := fun v7 k0_hw4 k0_t5 => k0_hw4.1.2.2.2.2.2.1 k0_t5
theorem k0_off13_inb : ∀ (v7 : BitVec 32) (k0_hw4 : k0_chk4 v7) (k0_t5 : Fin (k0_t5_loop v7).trips), ∀ a, (k0_off13 v7 k0_t5) a + S1x512x2048.size a ≤ S2x512x2048.size a := fun v7 k0_hw4 k0_t5 => k0_hw4.1.2.2.2.2.2.2.1 k0_t5
theorem k0_off15_inb : ∀ (v7 : BitVec 32) (k0_hw4 : k0_chk4 v7) (k0_t5 : Fin (k0_t5_loop v7).trips), ∀ (k0_h4 : k0_cond4 v7 k0_t5 = 1#1), ∀ a, (k0_off15 v7 k0_t5) a + S1.size a ≤ S33.size a := fun v7 k0_hw4 k0_t5 k0_h4 => k0_hw4.1.2.2.2.2.2.2.2.1 k0_t5 k0_h4
theorem k0_off16_inb : ∀ (v7 : BitVec 32) (k0_hw4 : k0_chk4 v7) (k0_t5 : Fin (k0_t5_loop v7).trips), ∀ (k0_h4 : k0_cond4 v7 k0_t5 = 1#1), ∀ a, (k0_off16 v7 k0_t5) a + S1.size a ≤ S2.size a := fun v7 k0_hw4 k0_t5 k0_h4 => k0_hw4.1.2.2.2.2.2.2.2.2.1 k0_t5 k0_h4
theorem k0_off18_inb : ∀ (v7 : BitVec 32) (k0_hw4 : k0_chk4 v7) (k0_t5 : Fin (k0_t5_loop v7).trips), ∀ (k0_h4 : k0_cond4 v7 k0_t5 = 1#1), ∀ a, (k0_off18 v7 k0_t5) a + S1x512x2048.size a ≤ S2x512x2048.size a := fun v7 k0_hw4 k0_t5 k0_h4 => k0_hw4.1.2.2.2.2.2.2.2.2.2.1 k0_t5 k0_h4
theorem k0_off19_inb : ∀ (v7 : BitVec 32) (k0_hw4 : k0_chk4 v7) (k0_t5 : Fin (k0_t5_loop v7).trips), ∀ a, (k0_off19 v7 k0_t5) a + S1.size a ≤ S33.size a := fun v7 k0_hw4 k0_t5 => k0_hw4.1.2.2.2.2.2.2.2.2.2.2.1 k0_t5
theorem k0_off21_inb : ∀ (v7 : BitVec 32) (k0_hw4 : k0_chk4 v7) (k0_t5 : Fin (k0_t5_loop v7).trips), ∀ a, (k0_off21 v7 k0_t5) a + S1.size a ≤ S33.size a := fun v7 k0_hw4 k0_t5 => k0_hw4.1.2.2.2.2.2.2.2.2.2.2.2.1 k0_t5
theorem k0_off22_inb : ∀ (v7 : BitVec 32) (k0_hw4 : k0_chk4 v7) (k0_t5 : Fin (k0_t5_loop v7).trips), ∀ a, (k0_off22 v7 k0_t5) a + S1x512x2048.size a ≤ S2x512x2048.size a := fun v7 k0_hw4 k0_t5 => k0_hw4.1.2.2.2.2.2.2.2.2.2.2.2.2.1 k0_t5
theorem k0_off23_inb : ∀ (v7 : BitVec 32) (k0_hw4 : k0_chk4 v7) (k0_t5 : Fin (k0_t5_loop v7).trips), ∀ a, (k0_off23 v7 k0_t5) a + S1.size a ≤ S2.size a := fun v7 k0_hw4 k0_t5 => k0_hw4.1.2.2.2.2.2.2.2.2.2.2.2.2.2.1 k0_t5
theorem k0_off25_inb : ∀ (v7 : BitVec 32) (k0_hw4 : k0_chk4 v7) (k0_t5 : Fin (k0_t5_loop v7).trips), ∀ a, (k0_off25 v7 k0_t5) a + S1x512x2048.size a ≤ S2x512x2048.size a := fun v7 k0_hw4 k0_t5 => k0_hw4.1.2.2.2.2.2.2.2.2.2.2.2.2.2.2.1 k0_t5
theorem k0_t6_ok : ∀ (v7 : BitVec 32) (k0_hw4 : k0_chk4 v7), (k0_t6_loop v7).OK := fun v7 k0_hw4 => k0_hw4.1.2.2.2.2.2.2.2.2.2.2.2.2.2.2.2.1
theorem k0_off26_inb : ∀ (v7 : BitVec 32) (k0_hw4 : k0_chk4 v7) (k0_t6 : Fin (k0_t6_loop v7).trips), ∀ (k0_h5 : k0_cond5 v7 k0_t6 = 1#1), ∀ a, (k0_off26 v7 k0_t6) a + S1.size a ≤ S33.size a := fun v7 k0_hw4 k0_t6 k0_h5 => k0_hw4.1.2.2.2.2.2.2.2.2.2.2.2.2.2.2.2.2.1 k0_t6 k0_h5
theorem k0_off27_inb : ∀ (v7 : BitVec 32) (k0_hw4 : k0_chk4 v7) (k0_t6 : Fin (k0_t6_loop v7).trips), ∀ (k0_h5 : k0_cond5 v7 k0_t6 = 1#1), ∀ a, (k0_off27 v7 k0_t6) a + S1.size a ≤ S2.size a := fun v7 k0_hw4 k0_t6 k0_h5 => k0_hw4.1.2.2.2.2.2.2.2.2.2.2.2.2.2.2.2.2.2.1 k0_t6 k0_h5
theorem k0_off28_inb : ∀ (v7 : BitVec 32) (k0_hw4 : k0_chk4 v7) (k0_t6 : Fin (k0_t6_loop v7).trips), ∀ (k0_h5 : k0_cond5 v7 k0_t6 = 1#1), ∀ a, (k0_off28 v7 k0_t6) a + S1x512x2048.size a ≤ S2x512x2048.size a := fun v7 k0_hw4 k0_t6 k0_h5 => k0_hw4.1.2.2.2.2.2.2.2.2.2.2.2.2.2.2.2.2.2.2.1 k0_t6 k0_h5
theorem k0_off30_inb : ∀ (v7 : BitVec 32) (k0_hw4 : k0_chk4 v7) (k0_t6 : Fin (k0_t6_loop v7).trips), ∀ a, (k0_off30 v7 k0_t6) a + S1.size a ≤ S33.size a := fun v7 k0_hw4 k0_t6 => k0_hw4.1.2.2.2.2.2.2.2.2.2.2.2.2.2.2.2.2.2.2.2.1 k0_t6
theorem k0_off31_inb : ∀ (v7 : BitVec 32) (k0_hw4 : k0_chk4 v7) (k0_t6 : Fin (k0_t6_loop v7).trips), ∀ a, (k0_off31 v7 k0_t6) a + S1.size a ≤ S2.size a := fun v7 k0_hw4 k0_t6 => k0_hw4.1.2.2.2.2.2.2.2.2.2.2.2.2.2.2.2.2.2.2.2.2.1 k0_t6
theorem k0_off32_inb : ∀ (v7 : BitVec 32) (k0_hw4 : k0_chk4 v7) (k0_t6 : Fin (k0_t6_loop v7).trips), ∀ a, (k0_off32 v7 k0_t6) a + S1x512x2048.size a ≤ S2x512x2048.size a := fun v7 k0_hw4 k0_t6 => k0_hw4.1.2.2.2.2.2.2.2.2.2.2.2.2.2.2.2.2.2.2.2.2.2.1 k0_t6
theorem k0_off34_inb : ∀ (v7 : BitVec 32) (k0_hw4 : k0_chk4 v7) (k0_t6 : Fin (k0_t6_loop v7).trips), ∀ (k0_h6 : k0_cond6 v7 k0_t6 = 1#1), ∀ a, (k0_off34 v7 k0_t6) a + S1.size a ≤ S33.size a := fun v7 k0_hw4 k0_t6 k0_h6 => k0_hw4.1.2.2.2.2.2.2.2.2.2.2.2.2.2.2.2.2.2.2.2.2.2.2.1 k0_t6 k0_h6
theorem k0_off35_inb : ∀ (v7 : BitVec 32) (k0_hw4 : k0_chk4 v7) (k0_t6 : Fin (k0_t6_loop v7).trips), ∀ (k0_h6 : k0_cond6 v7 k0_t6 = 1#1), ∀ a, (k0_off35 v7 k0_t6) a + S1.size a ≤ S2.size a := fun v7 k0_hw4 k0_t6 k0_h6 => k0_hw4.1.2.2.2.2.2.2.2.2.2.2.2.2.2.2.2.2.2.2.2.2.2.2.2.1 k0_t6 k0_h6
theorem k0_off37_inb : ∀ (v7 : BitVec 32) (k0_hw4 : k0_chk4 v7) (k0_t6 : Fin (k0_t6_loop v7).trips), ∀ (k0_h6 : k0_cond6 v7 k0_t6 = 1#1), ∀ a, (k0_off37 v7 k0_t6) a + S1x512x2048.size a ≤ S2x512x2048.size a := fun v7 k0_hw4 k0_t6 k0_h6 => k0_hw4.1.2.2.2.2.2.2.2.2.2.2.2.2.2.2.2.2.2.2.2.2.2.2.2.2.1 k0_t6 k0_h6
theorem k0_off38_inb : ∀ (v7 : BitVec 32) (k0_hw4 : k0_chk4 v7) (k0_t6 : Fin (k0_t6_loop v7).trips), ∀ a, (k0_off38 v7 k0_t6) a + S1.size a ≤ S33.size a := fun v7 k0_hw4 k0_t6 => k0_hw4.1.2.2.2.2.2.2.2.2.2.2.2.2.2.2.2.2.2.2.2.2.2.2.2.2.2.1 k0_t6
theorem k0_off40_inb : ∀ (v7 : BitVec 32) (k0_hw4 : k0_chk4 v7) (k0_t6 : Fin (k0_t6_loop v7).trips), ∀ a, (k0_off40 v7 k0_t6) a + S1.size a ≤ S33.size a := fun v7 k0_hw4 k0_t6 => k0_hw4.1.2.2.2.2.2.2.2.2.2.2.2.2.2.2.2.2.2.2.2.2.2.2.2.2.2.2.1 k0_t6
theorem k0_off41_inb : ∀ (v7 : BitVec 32) (k0_hw4 : k0_chk4 v7) (k0_t6 : Fin (k0_t6_loop v7).trips), ∀ a, (k0_off41 v7 k0_t6) a + S1x512x2048.size a ≤ S2x512x2048.size a := fun v7 k0_hw4 k0_t6 => k0_hw4.1.2.2.2.2.2.2.2.2.2.2.2.2.2.2.2.2.2.2.2.2.2.2.2.2.2.2.2.1 k0_t6
theorem k0_off42_inb : ∀ (v7 : BitVec 32) (k0_hw4 : k0_chk4 v7) (k0_t6 : Fin (k0_t6_loop v7).trips), ∀ a, (k0_off42 v7 k0_t6) a + S1.size a ≤ S2.size a := fun v7 k0_hw4 k0_t6 => k0_hw4.1.2.2.2.2.2.2.2.2.2.2.2.2.2.2.2.2.2.2.2.2.2.2.2.2.2.2.2.2.1 k0_t6
theorem k0_off44_inb : ∀ (v7 : BitVec 32) (k0_hw4 : k0_chk4 v7) (k0_t6 : Fin (k0_t6_loop v7).trips), ∀ a, (k0_off44 v7 k0_t6) a + S1x512x2048.size a ≤ S2x512x2048.size a := fun v7 k0_hw4 k0_t6 => k0_hw4.1.2.2.2.2.2.2.2.2.2.2.2.2.2.2.2.2.2.2.2.2.2.2.2.2.2.2.2.2.2.1 k0_t6
theorem k0_t7_ok : ∀ (v7 : BitVec 32) (k0_hw4 : k0_chk4 v7), (k0_t7_loop v7).OK := fun v7 k0_hw4 => k0_hw4.1.2.2.2.2.2.2.2.2.2.2.2.2.2.2.2.2.2.2.2.2.2.2.2.2.2.2.2.2.2.2.1
theorem k0_off45_inb : ∀ (v7 : BitVec 32) (k0_hw4 : k0_chk4 v7) (k0_t7 : Fin (k0_t7_loop v7).trips), ∀ a, (k0_off45 v7 k0_t7) a + S1.size a ≤ S33.size a := fun v7 k0_hw4 k0_t7 => k0_hw4.1.2.2.2.2.2.2.2.2.2.2.2.2.2.2.2.2.2.2.2.2.2.2.2.2.2.2.2.2.2.2.2 k0_t7
theorem k0_off46_inb : ∀ (v7 : BitVec 32) (k0_hw4 : k0_chk4 v7) (k0_t7 : Fin (k0_t7_loop v7).trips), ∀ a, (k0_off46 v7 k0_t7) a + S1.size a ≤ S2.size a := fun v7 k0_hw4 k0_t7 => k0_hw4.2.1 k0_t7
theorem k0_off48_inb : ∀ (v7 : BitVec 32) (k0_hw4 : k0_chk4 v7) (k0_t7 : Fin (k0_t7_loop v7).trips), ∀ a, (k0_off48 v7 k0_t7) a + S1x512x2048.size a ≤ S2x512x2048.size a := fun v7 k0_hw4 k0_t7 => k0_hw4.2.2.1 k0_t7
theorem k0_t8_ok : ∀ (v7 : BitVec 32) (k0_hw4 : k0_chk4 v7), (k0_t8_loop v7).OK := fun v7 k0_hw4 => k0_hw4.2.2.2.1
theorem k0_off49_inb : ∀ (v7 : BitVec 32) (k0_hw4 : k0_chk4 v7) (k0_t8 : Fin (k0_t8_loop v7).trips), ∀ a, (k0_off49 v7 k0_t8) a + S1.size a ≤ S33.size a := fun v7 k0_hw4 k0_t8 => k0_hw4.2.2.2.2.1 k0_t8
theorem k0_off50_inb : ∀ (v7 : BitVec 32) (k0_hw4 : k0_chk4 v7) (k0_t8 : Fin (k0_t8_loop v7).trips), ∀ a, (k0_off50 v7 k0_t8) a + S1.size a ≤ S2.size a := fun v7 k0_hw4 k0_t8 => k0_hw4.2.2.2.2.2.1 k0_t8
theorem k0_off52_inb : ∀ (v7 : BitVec 32) (k0_hw4 : k0_chk4 v7) (k0_t8 : Fin (k0_t8_loop v7).trips), ∀ a, (k0_off52 v7 k0_t8) a + S1x512x2048.size a ≤ S2x512x2048.size a := fun v7 k0_hw4 k0_t8 => k0_hw4.2.2.2.2.2.2 k0_t8

@[reducible] def k0_t9_loop (v5 : BitVec 32) : Scf.Loop 32 :=
  let c0_i32_20 : BitVec 32 := 0#32
  let v23 : BitVec 32 := Scalar.subi v5 c0_i32_20
  let c1_i32_21 : BitVec 32 := 1#32
  let v25 : BitVec 32 := Scalar.divsi v23 c1_i32_21
  let v26 : BitVec 32 := Scalar.muli v25 c1_i32_21
  let v27 : BitVec 32 := Scalar.addi c0_i32_20 v26
  let c1_i32_22 : BitVec 32 := 1#32
  ⟨c0_i32_20, v27, c1_i32_22⟩

@[reducible] def k0_t10_loop (v5 : BitVec 32) : Scf.Loop 32 :=
  let c0_i32_20 : BitVec 32 := 0#32
  let v23 : BitVec 32 := Scalar.subi v5 c0_i32_20
  let c1_i32_21 : BitVec 32 := 1#32
  let v25 : BitVec 32 := Scalar.divsi v23 c1_i32_21
  let v26 : BitVec 32 := Scalar.muli v25 c1_i32_21
  let v27 : BitVec 32 := Scalar.addi c0_i32_20 v26
  let v24 : BitVec 32 := Scalar.addi c0_i32_20 v23
  let c1_i32_23 : BitVec 32 := 1#32
  ⟨v27, v24, c1_i32_23⟩

def k0_chk17 (v5 : BitVec 32) : Prop :=
  ((k0_t9_loop v5).OK) ∧
  ((k0_t10_loop v5).OK)
theorem k0_t9_ok : ∀ (v5 : BitVec 32) (k0_hw17 : k0_chk17 v5), (k0_t9_loop v5).OK := fun v5 k0_hw17 => k0_hw17.1
theorem k0_t10_ok : ∀ (v5 : BitVec 32) (k0_hw17 : k0_chk17 v5), (k0_t10_loop v5).OK := fun v5 k0_hw17 => k0_hw17.2
-- ==== ReferenceIdeal.lean ====
abbrev S8x2048x2048 : Shape := ⟨3, ![8, 2048, 2048]⟩
abbrev S8 : Shape := ⟨1, ![8]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x2048x1 : Shape := ⟨3, ![1, 2048, 1]⟩
abbrev S8x1x1 : Shape := ⟨3, ![8, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8, .i32⟩
  | .hbm, ⟨2, _⟩ => ⟨S_, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S2048, .i32⟩
  | .hbm, ⟨20, _⟩ => ⟨S1x2048x1, .i32⟩
  | .hbm, ⟨21, _⟩ => ⟨S8x1x1, .i32⟩
  | .hbm, ⟨22, _⟩ => ⟨S8x2048x1, .i32⟩
  | .hbm, ⟨23, _⟩ => ⟨S8x2048x1, .i32⟩
  | .hbm, ⟨24, _⟩ => ⟨S8x2048x1, .i1⟩
  | .hbm, ⟨25, _⟩ => ⟨S_, .f32⟩
  | .hbm, ⟨26, _⟩ => ⟨S8x2048x2048, .f32⟩
  | .hbm, ⟨27, _⟩ => ⟨S8x2048x2048, .i1⟩
  | .hbm, ⟨28, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_call0_v0 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Blocks.lean ====
/-
  The thirty-two blocks of 512 rows, in the order the kernel lists them. Block `g` is rows `512 * (g % 4)` onwards of
  batch `g / 4`. A batch's first `nr` rows are to be computed: a block is live when one of its rows is among them, dead
  when none is. The kernel treats the live blocks in their order, and the dead ones in theirs; `todo p k` is the blocks
  of kind `p` from the `k`-th on, `done p k` those before it.
-/
module

public import Mathlib.Data.Nat.Count
public import Idealize.ShloMosaic.Lib.Ring
public import Idealize.ShloMosaic.Lib.Tactic

@[expose] public section

namespace Cert.Proof.Blocks

open Idealize.SL Idealize.SL.RA Idealize.SL.BI
open scoped Idealize.SL.BI
open Idealize.SL.BI.BIBase Idealize.SL.BI.Laws Idealize.SL.ProofMode

/-- A block some row of which is to be computed; -/
def live (nr : ℕ → ℕ) (g : ℕ) : Prop := g < 32 ∧ g % 4 * 512 < nr (g / 4)
/-- and one no row of which is. -/
def dead (nr : ℕ → ℕ) (g : ℕ) : Prop := g < 32 ∧ ¬ g % 4 * 512 < nr (g / 4)

instance (nr : ℕ → ℕ) : DecidablePred (live nr) := fun g => by unfold live; infer_instance
instance (nr : ℕ → ℕ) : DecidablePred (dead nr) := fun g => by unfold dead; infer_instance

/-! ## Counting and numbering -/

section Order
variable (p : ℕ → Prop) [DecidablePred p]

/-- Every number below the count of a stretch is the rank of a block in it. -/
theorem exists_rank {k : ℕ} : ∀ n : ℕ, k < Nat.count p n → ∃ g < n, p g ∧ Nat.count p g = k
  | 0, h => by simp at h
  | n + 1, h => by
    rw [Nat.count_succ] at h
    by_cases hk : k < Nat.count p n
    · obtain ⟨g, hg, h1, h2⟩ := exists_rank n hk
      exact ⟨g, by omega, h1, h2⟩
    · by_cases hp : p n
      · rw [if_pos hp] at h
        exact ⟨n, by omega, hp, by omega⟩
      · rw [if_neg hp] at h; omega

open Classical in
/-- The block of kind `p` of rank `k` (any number where there is none). -/
noncomputable def nth (k : ℕ) : ℕ := if h : ∃ g, p g ∧ Nat.count p g = k then Nat.find h else 0

variable {p}

theorem count_lt_count {a b : ℕ} (h : a < b) (ha : p a) : Nat.count p a < Nat.count p b :=
  lt_of_lt_of_le (by rw [Nat.count_succ, if_pos ha]; omega) (Nat.count_monotone p (Nat.succ_le_of_lt h))

theorem nth_count {g : ℕ} (hg : p g) : nth p (Nat.count p g) = g := by
  have h : ∃ g', p g' ∧ Nat.count p g' = Nat.count p g := ⟨g, hg, rfl⟩
  unfold nth
  rw [dif_pos h]
  obtain ⟨h1, h2⟩ := Nat.find_spec h
  rcases Nat.lt_trichotomy (Nat.find h) g with hl | he | hl
  · have := count_lt_count hl h1; omega
  · exact he
  · have := count_lt_count hl hg; omega

theorem nth_spec {k n : ℕ} (h : k < Nat.count p n) : nth p k < n ∧ p (nth p k) ∧ Nat.count p (nth p k) = k := by
  obtain ⟨g, hg, h1, h2⟩ := exists_rank p n h
  rw [← h2, nth_count h1]
  exact ⟨hg, h1, rfl⟩

theorem count_le (n : ℕ) : Nat.count p n ≤ n := Nat.count_le p

theorem count_pos_step {n : ℕ} (h : p n) : Nat.count p (n + 1) = Nat.count p n + 1 := by rw [Nat.count_succ, if_pos h]
theorem count_neg_step {n : ℕ} (h : ¬ p n) : Nat.count p (n + 1) = Nat.count p n := by rw [Nat.count_succ, if_neg h]; rfl

/-- A stretch with no block of the kind adds none. -/
theorem count_skip (a : ℕ) : ∀ d : ℕ, (∀ j < d, ¬ p (a + j)) → Nat.count p (a + d) = Nat.count p a
  | 0, _ => rfl
  | d + 1, h => by
    rw [← Nat.add_assoc, count_neg_step (h d (by omega)), count_skip a d fun j hj => h j (by omega)]

variable (p) in
/-- The blocks of kind `p` from the `k`-th on; -/
def todo (k : ℕ) : Finset ℕ := (Finset.range 32).filter fun g => p g ∧ k ≤ Nat.count p g
variable (p) in
/-- those before it; -/
def done (k : ℕ) : Finset ℕ := (Finset.range 32).filter fun g => p g ∧ Nat.count p g < k
variable (p) in
/-- and all of them. -/
def every : Finset ℕ := (Finset.range 32).filter p

theorem todo_zero : todo p 0 = every p := by
  ext g; simp [todo, every]

theorem done_zero : done p 0 = ∅ := by
  ext g; simp [done]

theorem todo_all {k : ℕ} (h : Nat.count p 32 ≤ k) : todo p k = ∅ := by
  ext g
  simp only [todo, Finset.mem_filter, Finset.mem_range, Finset.notMem_empty, iff_false, not_and, not_le]
  intro hg hp
  exact lt_of_lt_of_le (count_lt_count hg hp) h

theorem done_all {k : ℕ} (h : Nat.count p 32 ≤ k) : done p k = every p := by
  ext g
  simp only [done, every, Finset.mem_filter, Finset.mem_range]
  exact ⟨fun ⟨a, b, _⟩ => ⟨a, b⟩, fun ⟨a, b⟩ => ⟨a, b, lt_of_lt_of_le (count_lt_count a b) h⟩⟩

theorem nth_notMem_todo {k : ℕ} (h : k < Nat.count p 32) : nth p k ∉ todo p (k + 1) := by
  obtain ⟨_, _, h2⟩ := nth_spec h
  simp [todo, h2]

theorem nth_notMem_done {k : ℕ} (h : k < Nat.count p 32) : nth p k ∉ done p k := by
  obtain ⟨_, _, h2⟩ := nth_spec h
  simp [done, h2]

theorem eq_nth {g : ℕ} (hp : p g) {k : ℕ} (h : Nat.count p g = k) : g = nth p k := by
  rw [← h, nth_count hp]

theorem todo_succ {k : ℕ} (h : k < Nat.count p 32) : todo p k = insert (nth p k) (todo p (k + 1)) := by
  obtain ⟨h0, h1, h2⟩ := nth_spec h
  ext g
  simp only [todo, Finset.mem_filter, Finset.mem_range, Finset.mem_insert]
  constructor
  · rintro ⟨a, b, c⟩
    rcases Nat.lt_or_eq_of_le c with c | c
    · exact .inr ⟨a, b, c⟩
    · exact .inl (eq_nth b c.symm)
  · rintro (rfl | ⟨a, b, c⟩)
    · exact ⟨h0, h1, h2.ge⟩
    · exact ⟨a, b, by omega⟩

theorem done_succ {k : ℕ} (h : k < Nat.count p 32) : done p (k + 1) = insert (nth p k) (done p k) := by
  obtain ⟨h0, h1, h2⟩ := nth_spec h
  ext g
  simp only [done, Finset.mem_filter, Finset.mem_range, Finset.mem_insert]
  constructor
  · rintro ⟨a, b, c⟩
    rcases Nat.lt_or_eq_of_le (Nat.le_of_lt_succ c) with c | c
    · exact .inr ⟨a, b, c⟩
    · exact .inl (eq_nth b c)
  · rintro (rfl | ⟨a, b, c⟩)
    · exact ⟨h0, h1, by omega⟩
    · exact ⟨a, b, by omega⟩

variable {M : Type _} [URA M] (Φ : ℕ → sProp M)

theorem sep_todo {k : ℕ} (h : k < Nat.count p 32) :
    bigSep (todo p k) Φ = iprop(Φ (nth p k) ∗ bigSep (todo p (k + 1)) Φ) := by
  rw [todo_succ h]; exact bigSep_insert (nth_notMem_todo h)

theorem sep_done {k : ℕ} (h : k < Nat.count p 32) :
    bigSep (done p (k + 1)) Φ = iprop(Φ (nth p k) ∗ bigSep (done p k) Φ) := by
  rw [done_succ h]; exact bigSep_insert (nth_notMem_done h)

/-- The blocks of the kind taken by number. -/
theorem sep_numbers : ∀ n : ℕ, n ≤ Nat.count p 32 →
    bigSep (Finset.range n) (fun t => Φ (nth p t)) = bigSep (done p n) Φ
  | 0, _ => by rw [done_zero, Finset.range_zero, bigSep_empty, bigSep_empty]
  | n + 1, h => by
    rw [sep_done Φ (by omega), ← sep_numbers n (by omega), Finset.range_add_one]; exact bigSep_insert Finset.notMem_range_self

end Order

/-! ## Live and dead blocks -/

section Kinds
variable (nr : ℕ → ℕ)

theorem every_disjoint : Disjoint (every (live nr)) (every (dead nr)) := by
  rw [Finset.disjoint_left]
  intro g h1 h2
  exact (Finset.mem_filter.mp h2).2.2 (Finset.mem_filter.mp h1).2.2

theorem every_union : every (live nr) ∪ every (dead nr) = Finset.range 32 := by
  ext g
  simp only [every, live, dead, Finset.mem_union, Finset.mem_filter, Finset.mem_range]
  by_cases h : g % 4 * 512 < nr (g / 4) <;> simp [h]

theorem sep_kinds {M : Type _} [URA M] (Φ : ℕ → sProp M) :
    bigSep (Finset.range 32) Φ = iprop(bigSep (every (live nr)) Φ ∗ bigSep (every (dead nr)) Φ) := by
  rw [← every_union nr]; exact bigSep_union (every_disjoint nr)

/-- The blocks of batch `b` that hold its rows are not dead, -/
theorem not_dead {b j : ℕ} (hb : b < 8) (hn : nr b ≤ 2048) (hj : j < (nr b + 511) / 512) : ¬ dead nr (4 * b + j) := by
  intro h
  have h4 : (4 * b + j) % 4 = j := by omega
  have h5 : (4 * b + j) / 4 = b := by omega
  have := h.2
  rw [h4, h5] at this
  omega

/-- those after them are. -/
theorem dead_tail {b j : ℕ} (hb : b < 8) (hj : (nr b + 511) / 512 ≤ j) (h4 : j < 4) : dead nr (4 * b + j) := by
  refine ⟨by omega, ?_⟩
  have e4 : (4 * b + j) % 4 = j := by omega
  have e5 : (4 * b + j) / 4 = b := by omega
  rw [e4, e5]
  omega

/-- No dead block is met among the blocks of batch `b` that hold its rows. -/
theorem count_dead_batch {b : ℕ} (hb : b < 8) (hn : nr b ≤ 2048) :
    Nat.count (dead nr) (4 * b + (nr b + 511) / 512) = Nat.count (dead nr) (4 * b) :=
  count_skip _ _ fun _ hj => not_dead nr hb hn hj

theorem count_lt_33 (p : ℕ → Prop) [DecidablePred p] : Nat.count p 32 < 33 := Nat.lt_succ_of_le (count_le 32)

end Kinds

end Cert.Proof.Blocks
-- ==== Proof.KernelIdeal.Words.lean ====
/-
  The words the kernel computes, in closed form: how often each loop runs, which element of a list, which slot of a
  ring and which block of an array each access names, and that the side conditions the body assumes all hold. The
  number `n` of blocks to be computed is at most 32, so the facts about it are checked case by case.
-/
module

public import proofs.«01_k».proof.Proof.Gen.KernelIdeal.Launch
public import proofs.«01_k».proof.Proof.Gen.KernelIdeal.Skeleton
public import Idealize.ShloMosaic.Lib.Affine

@[expose] public section

namespace Cert.Proof.KernelIdeal

open Cert.KernelIdeal Cert.KernelIdeal.Gen
open Idealize.ShloMosaic Idealize.ShloMosaic.TcCoe

/-! ## Zeroing: the batches, and the blocks of a batch past its rows -/

theorem trips1 : k0_t1_loop.trips = 8 := by decide +kernel

theorem off1_eq : ∀ t : Fin k0_t1_loop.trips, k0_off1 t = ![t.val] := by decide +kernel

/-- The number of blocks of 512 rows that hold a batch's first `n` rows. -/
theorem ceil_word : ∀ n : Fin 2049,
    Scalar.divsi (Scalar.addi (BitVec.ofNat 32 n.val) 511#32) 512#32 = BitVec.ofNat 32 ((n.val + 511) / 512) := by
  decide +kernel

theorem tail_trips : ∀ w : Fin 5,
    Scf.trips (BitVec.ofNat 32 w.val)
      (Scalar.addi (BitVec.ofNat 32 w.val)
        (Scalar.muli (Scalar.divsi (Scalar.subi 4#32 (BitVec.ofNat 32 w.val)) 1#32) 1#32)) 1#32 = 4 - w.val := by
  decide +kernel

theorem tail_ok : ∀ w : Fin 5,
    Scf.OK (BitVec.ofNat 32 w.val)
      (Scalar.addi (BitVec.ofNat 32 w.val)
        (Scalar.muli (Scalar.divsi (Scalar.subi 4#32 (BitVec.ofNat 32 w.val)) 1#32) 1#32)) 1#32 := by
  decide +kernel

theorem rest_trips : ∀ w : Fin 5,
    Scf.trips
      (Scalar.addi (BitVec.ofNat 32 w.val)
        (Scalar.muli (Scalar.divsi (Scalar.subi 4#32 (BitVec.ofNat 32 w.val)) 1#32) 1#32))
      (Scalar.addi (BitVec.ofNat 32 w.val) (Scalar.subi 4#32 (BitVec.ofNat 32 w.val))) 1#32 = 0 := by
  decide +kernel

theorem rest_ok : ∀ w : Fin 5,
    Scf.OK
      (Scalar.addi (BitVec.ofNat 32 w.val)
        (Scalar.muli (Scalar.divsi (Scalar.subi 4#32 (BitVec.ofNat 32 w.val)) 1#32) 1#32))
      (Scalar.addi (BitVec.ofNat 32 w.val) (Scalar.subi 4#32 (BitVec.ofNat 32 w.val))) 1#32 := by
  decide +kernel

theorem tail_row : ∀ w u : Fin 5,
    (Scalar.muli (Scf.iv (BitVec.ofNat 32 w.val) 1#32 u.val) 512#32).toNat = (w.val + u.val) * 512 := by
  decide +kernel

theorem batch_word : ∀ t : Fin 8, (Scf.iv 0#32 1#32 t.val).toNat = t.val := by decide +kernel

theorem ceil_lt (n : Fin 2049) : (n.val + 511) / 512 < 5 := by omega

theorem trips2 (n : Fin 2049) : (k0_t2_loop (BitVec.ofNat 32 n.val)).trips = 4 - (n.val + 511) / 512 := by
  have h := tail_trips ⟨_, ceil_lt n⟩
  rw [← ceil_word n] at h
  exact h

theorem trips3 (n : Fin 2049) : (k0_t3_loop (BitVec.ofNat 32 n.val)).trips = 0 := by
  have h := rest_trips ⟨_, ceil_lt n⟩
  rw [← ceil_word n] at h
  exact h

theorem off2_eq (t : Fin k0_t1_loop.trips) (n : Fin 2049) (u : Fin (k0_t2_loop (BitVec.ofNat 32 n.val)).trips) :
    k0_off2 t (BitVec.ofNat 32 n.val) u = ![t.val, ((n.val + 511) / 512 + u.val) * 512, 0] := by
  have hu : u.val < 5 := lt_of_lt_of_le u.isLt (by rw [trips2]; omega)
  have h := tail_row ⟨_, ceil_lt n⟩ ⟨u.val, hu⟩
  rw [← ceil_word n] at h
  have hb := batch_word ⟨t.val, lt_of_lt_of_eq t.isLt trips1⟩
  show ![(Scf.iv 0#32 1#32 t.val).toNat, _, 0] = _
  rw [hb]
  exact congrArg (fun r => ![t.val, r, 0]) h

theorem chk1_of (t : Fin k0_t1_loop.trips) (n : Fin 2049) : k0_chk1 t (BitVec.ofNat 32 n.val) := by
  refine ⟨?_, ?_, ?_, ?_⟩
  · have h := tail_ok ⟨_, ceil_lt n⟩
    rw [← ceil_word n] at h
    exact h
  · intro u a
    have ht := lt_of_lt_of_eq t.isLt trips1
    have hu := lt_of_lt_of_eq u.isLt (trips2 n)
    rw [off2_eq]
    fin_cases a
    · show t.val + 1 ≤ 8; omega
    · show ((n.val + 511) / 512 + u.val) * 512 + 512 ≤ 2048; omega
    · show 0 + 2048 ≤ 2048; omega
  · have h := rest_ok ⟨_, ceil_lt n⟩
    rw [← ceil_word n] at h
    exact h
  · exact fun u => (Nat.not_lt_zero _ (Nat.lt_of_lt_of_eq u.isLt (trips3 n))).elim

/-! ## Listing the blocks to be computed -/

theorem trips4 : k0_t4_loop.trips = 32 := by decide +kernel

theorem off4_eq : ∀ t : Fin k0_t4_loop.trips, k0_off4 t = ![t.val / 4] := by decide +kernel

theorem off5_eq : ∀ k : Fin 33, k0_off5 (BitVec.ofNat 32 k.val) = ![k.val] := by decide +kernel

theorem off5_inb (k : Fin 33) : ∀ a, k0_off5 (BitVec.ofNat 32 k.val) a + S1.size a ≤ S33.size a := by
  intro a
  rw [off5_eq]
  fin_cases a
  show k.val + 1 ≤ 33; omega

theorem chk2_of (t : Fin k0_t4_loop.trips) (k : Fin 33) (v : BitVec 32) : k0_chk2 t (BitVec.ofNat 32 k.val) v :=
  fun _ => off5_inb k

/-! ## The blocks in the arrays -/

theorem blk_off6 : ∀ g : Fin 32, k0_off6 (BitVec.ofNat 32 (g.val / 4)) (BitVec.ofNat 32 (g.val % 4)) = ![g.val / 4, g.val % 4 * 512, 0] := by
  decide +kernel
theorem blk_off10 (g : Fin 32) : k0_off10 (BitVec.ofNat 32 (g.val / 4)) (BitVec.ofNat 32 (g.val % 4)) = ![g.val / 4, g.val % 4 * 512, 0] :=
  blk_off6 g
theorem blk_off14 (g : Fin 32) : k0_off14 (BitVec.ofNat 32 (g.val / 4)) (BitVec.ofNat 32 (g.val % 4)) = ![g.val / 4, g.val % 4 * 512, 0] :=
  blk_off6 g
theorem blk_off17 (g : Fin 32) : k0_off17 (BitVec.ofNat 32 (g.val / 4)) (BitVec.ofNat 32 (g.val % 4)) = ![g.val / 4, g.val % 4 * 512, 0] :=
  blk_off6 g
theorem blk_off24 (g : Fin 32) : k0_off24 (BitVec.ofNat 32 (g.val / 4)) (BitVec.ofNat 32 (g.val % 4)) = ![g.val / 4, g.val % 4 * 512, 0] :=
  blk_off6 g
theorem blk_off47 (g : Fin 32) : k0_off47 (BitVec.ofNat 32 (g.val / 4)) (BitVec.ofNat 32 (g.val % 4)) = ![g.val / 4, g.val % 4 * 512, 0] :=
  blk_off6 g
theorem blk_off20 : ∀ g : Fin 32, k0_off20 (BitVec.ofNat 32 (g.val / 4)) = ![g.val / 4] := by decide +kernel

theorem blk_inb (g : Fin 32) : ∀ a, (![g.val / 4, g.val % 4 * 512, 0] : Fin 3 → ℕ) a + S1x512x2048.size a ≤ S8x2048x2048.size a := by
  intro a
  fin_cases a
  · show g.val / 4 + 1 ≤ 8; omega
  · show g.val % 4 * 512 + 512 ≤ 2048; omega
  · show 0 + 2048 ≤ 2048; omega

theorem chk3_of (v : BitVec 32) (g : Fin 32) : k0_chk3 v (BitVec.ofNat 32 (g.val / 4)) (BitVec.ofNat 32 (g.val % 4)) :=
  fun _ a => by rw [blk_off6]; exact blk_inb g a
theorem chk5_of (v : BitVec 32) (t : Fin (k0_t5_loop v).trips) (g : Fin 32) :
    k0_chk5 v t (BitVec.ofNat 32 (g.val / 4)) (BitVec.ofNat 32 (g.val % 4)) :=
  fun _ a => by rw [blk_off10]; exact blk_inb g a
theorem chk6_of (g : Fin 32) : k0_chk6 (BitVec.ofNat 32 (g.val / 4)) (BitVec.ofNat 32 (g.val % 4)) :=
  fun a => by rw [blk_off14]; exact blk_inb g a
theorem chk7_of (v : BitVec 32) (t : Fin (k0_t5_loop v).trips) (g : Fin 32) :
    k0_chk7 v t (BitVec.ofNat 32 (g.val / 4)) (BitVec.ofNat 32 (g.val % 4)) :=
  fun _ a => by rw [blk_off17]; exact blk_inb g a
theorem chk8_of (g : Fin 32) : k0_chk8 (BitVec.ofNat 32 (g.val / 4)) := by
  intro a
  rw [blk_off20]
  fin_cases a
  show g.val / 4 + 1 ≤ 8; omega
theorem chk9_of (g : Fin 32) : k0_chk9 (BitVec.ofNat 32 (g.val / 4)) (BitVec.ofNat 32 (g.val % 4)) :=
  fun a => by rw [blk_off24]; exact blk_inb g a
theorem chk15_of (g : Fin 32) : k0_chk15 (BitVec.ofNat 32 (g.val / 4)) (BitVec.ofNat 32 (g.val % 4)) :=
  fun a => by rw [blk_off47]; exact blk_inb g a

/-! ## The ring: the trips of the computing loop, and of the two that wait -/

theorem cond2_iff : ∀ n : Fin 33, k0_cond2 (BitVec.ofNat 32 n.val) = 1#1 ↔ 0 < n.val := by decide +kernel

theorem trips5 : ∀ n : Fin 33, (k0_t5_loop (BitVec.ofNat 32 n.val)).trips = n.val := by decide +kernel
theorem trips6 : ∀ n : Fin 33, (k0_t6_loop (BitVec.ofNat 32 n.val)).trips = 0 := by decide +kernel
theorem trips7 : ∀ n : Fin 33, (k0_t7_loop (BitVec.ofNat 32 n.val)).trips = n.val - (n.val - 2) := by decide +kernel
theorem trips8 : ∀ n : Fin 33, (k0_t8_loop (BitVec.ofNat 32 n.val)).trips = 0 := by decide +kernel
theorem trips9 : ∀ n : Fin 33, (k0_t9_loop (BitVec.ofNat 32 n.val)).trips = n.val := by decide +kernel
theorem trips10 : ∀ n : Fin 33, (k0_t10_loop (BitVec.ofNat 32 n.val)).trips = 0 := by decide +kernel

theorem cond3_iff : ∀ n : Fin 33, ∀ t : Fin (k0_t5_loop (BitVec.ofNat 32 n.val)).trips,
    k0_cond3 (BitVec.ofNat 32 n.val) t = 1#1 ↔ t.val + 1 < n.val := by decide +kernel
theorem off7_eq : ∀ n : Fin 33, ∀ t : Fin (k0_t5_loop (BitVec.ofNat 32 n.val)).trips,
    k0_off7 (BitVec.ofNat 32 n.val) t = ![t.val + 1] := by decide +kernel
theorem off8_eq : ∀ n : Fin 33, ∀ t : Fin (k0_t5_loop (BitVec.ofNat 32 n.val)).trips,
    k0_off8 (BitVec.ofNat 32 n.val) t = ![(t.val + 1) % 2] := by decide +kernel
theorem off9_eq : ∀ n : Fin 33, ∀ t : Fin (k0_t5_loop (BitVec.ofNat 32 n.val)).trips,
    k0_off9 (BitVec.ofNat 32 n.val) t = ![(t.val + 1) % 2, 0, 0] := by decide +kernel
theorem off11_eq : ∀ n : Fin 33, ∀ t : Fin (k0_t5_loop (BitVec.ofNat 32 n.val)).trips,
    k0_off11 (BitVec.ofNat 32 n.val) t = ![t.val] := by decide +kernel
theorem off12_eq : ∀ n : Fin 33, ∀ t : Fin (k0_t5_loop (BitVec.ofNat 32 n.val)).trips,
    k0_off12 (BitVec.ofNat 32 n.val) t = ![t.val % 2] := by decide +kernel
theorem off13_eq : ∀ n : Fin 33, ∀ t : Fin (k0_t5_loop (BitVec.ofNat 32 n.val)).trips,
    k0_off13 (BitVec.ofNat 32 n.val) t = ![t.val % 2, 0, 0] := by decide +kernel
theorem cond4_iff : ∀ n : Fin 33, ∀ t : Fin (k0_t5_loop (BitVec.ofNat 32 n.val)).trips,
    k0_cond4 (BitVec.ofNat 32 n.val) t = 1#1 ↔ 2 ≤ t.val := by decide +kernel
theorem off15_eq : ∀ n : Fin 33, ∀ t : Fin (k0_t5_loop (BitVec.ofNat 32 n.val)).trips,
    2 ≤ t.val → k0_off15 (BitVec.ofNat 32 n.val) t = ![t.val - 2] := by decide +kernel
theorem off16_eq : ∀ n : Fin 33, ∀ t : Fin (k0_t5_loop (BitVec.ofNat 32 n.val)).trips,
    k0_off16 (BitVec.ofNat 32 n.val) t = ![t.val % 2] := by decide +kernel
theorem off18_eq : ∀ n : Fin 33, ∀ t : Fin (k0_t5_loop (BitVec.ofNat 32 n.val)).trips,
    k0_off18 (BitVec.ofNat 32 n.val) t = ![t.val % 2, 0, 0] := by decide +kernel
theorem off19_eq (n : Fin 33) (t : Fin (k0_t5_loop (BitVec.ofNat 32 n.val)).trips) :
    k0_off19 (BitVec.ofNat 32 n.val) t = ![t.val] := off11_eq n t
theorem off21_eq (n : Fin 33) (t : Fin (k0_t5_loop (BitVec.ofNat 32 n.val)).trips) :
    k0_off21 (BitVec.ofNat 32 n.val) t = ![t.val] := off11_eq n t
theorem off22_eq : ∀ n : Fin 33, ∀ t : Fin (k0_t5_loop (BitVec.ofNat 32 n.val)).trips,
    k0_off22 (BitVec.ofNat 32 n.val) t = ![t.val % 2, 0, 0] := by decide +kernel
theorem off23_eq : ∀ n : Fin 33, ∀ t : Fin (k0_t5_loop (BitVec.ofNat 32 n.val)).trips,
    k0_off23 (BitVec.ofNat 32 n.val) t = ![t.val % 2] := by decide +kernel
theorem off25_eq : ∀ n : Fin 33, ∀ t : Fin (k0_t5_loop (BitVec.ofNat 32 n.val)).trips,
    k0_off25 (BitVec.ofNat 32 n.val) t = ![t.val % 2, 0, 0] := by decide +kernel

theorem off45_eq : ∀ n : Fin 33, ∀ t : Fin (k0_t7_loop (BitVec.ofNat 32 n.val)).trips,
    k0_off45 (BitVec.ofNat 32 n.val) t = ![n.val - 2 + t.val] := by decide +kernel
theorem off46_eq : ∀ n : Fin 33, ∀ t : Fin (k0_t7_loop (BitVec.ofNat 32 n.val)).trips,
    k0_off46 (BitVec.ofNat 32 n.val) t = ![(n.val - 2 + t.val) % 2] := by decide +kernel
theorem off48_eq : ∀ n : Fin 33, ∀ t : Fin (k0_t7_loop (BitVec.ofNat 32 n.val)).trips,
    k0_off48 (BitVec.ofNat 32 n.val) t = ![(n.val - 2 + t.val) % 2, 0, 0] := by decide +kernel

/-- Every side condition on the number of blocks to be computed holds; -/
theorem chk4_of : ∀ n : Fin 33, k0_chk4 (BitVec.ofNat 32 n.val) := by decide +kernel
/-- and every one on the number of blocks that are zeroed. -/
theorem chk17_of : ∀ n : Fin 33, k0_chk17 (BitVec.ofNat 32 n.val) := by decide +kernel

end Cert.Proof.KernelIdeal
-- ==== Proof.KernelIdeal.Pieces.lean ====
/-
  The memory the kernel works on, in pieces: the blocks of the two arrays, the slots of the two rings, the zero block,
  the two lists and the table of row counts; and one step of the program for each kind of access to them.
-/
module

public import proofs.«01_k».proof.Proof.KernelIdeal.Words
public import proofs.«01_k».proof.Proof.Blocks
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Batch
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := Pipeline.UD sig nD τ
local notation "𝕄" => MT nD τ sig Unit (Elt F) ℕ (UU nD τ) ℕ
abbrev EC : UEmb Counters (MT nD τ sig Unit (Elt F) ℕ (UU nD τ) ℕ) := countersEmb (U := UU nD τ)
abbrev 𝒱₀ : Variants := Variants.none

/-! ## The arrays -/

abbrev tabM : Memref sig .tc .smem S8 .i32 := Memref.whole main_arg1
abbrev inM : Memref sig .tc .hbm S8x2048x2048 .f32 := Memref.whole main_arg0
abbrev outM : Memref sig .tc .hbm S8x2048x2048 .f32 := Memref.whole main_v0
abbrev inRing : Memref sig .tc .vmem S2x512x2048 .f32 := Memref.whole cc0_scratch0
abbrev outRing : Memref sig .tc .vmem S2x512x2048 .f32 := Memref.whole cc0_scratch1
abbrev zeroM : Memref sig .tc .vmem S512x2048 .f32 := Memref.whole cc0_scratch2
abbrev bofM : Memref sig .tc .smem S33 .i32 := Memref.whole cc0_scratch6
abbrev iofM : Memref sig .tc .smem S33 .i32 := Memref.whole cc0_scratch7

/-! ## Blocks of an array and slots of a ring -/

/-- The slot of a ring used by the `k`-th block. -/
abbrev sl (k : ℕ) : Fin 2 := ⟨k % 2, Nat.mod_lt _ (by decide)⟩

theorem slot_inb (s : Fin 2) : ∀ a, (![s.val, 0, 0] : Fin 3 → ℕ) a + S1x512x2048.size a ≤ S2x512x2048.size a := by
  intro a
  fin_cases a
  · show s.val + 1 ≤ 2; omega
  · show 0 + 512 ≤ 512; omega
  · show 0 + 2048 ≤ 2048; omega

theorem cell_inb (s : Fin 2) : ∀ a, (![s.val] : Fin 1 → ℕ) a + S1.size a ≤ S2.size a := by
  intro a
  fin_cases a
  show s.val + 1 ≤ 2; omega

abbrev blkR (g : Fin 32) : Rect S8x2048x2048 := Rect.unit ![g.val / 4, g.val % 4 * 512, 0] S1x512x2048.size (blk_inb g)
abbrev slotR (s : Fin 2) : Rect S2x512x2048 := Rect.unit ![s.val, 0, 0] S1x512x2048.size (slot_inb s)

/-- Where element `y` of block `g` lies in an array; -/
def blkAt (g : Fin 32) (y : S1x512x2048.Idx) : S8x2048x2048.Idx := (blkR g).emb y
/-- where element `y` of slot `s` lies in a ring. -/
def slotAt (s : Fin 2) (y : S1x512x2048.Idx) : S2x512x2048.Idx := (slotR s).emb y

/-- The elements of block `g`; -/
def blkS (g : ℕ) : Finset S8x2048x2048.Idx := Finset.univ.filter fun i => 4 * (i 0).val + (i 1).val / 512 = g
/-- of slot `s`. -/
def slotS (s : ℕ) : Finset S2x512x2048.Idx := Finset.univ.filter fun i => (i 0).val = s

theorem blkR_set (g : Fin 32) : (blkR g).set = blkS g.val := by
  ext i
  have h0 : (i 0).val < 8 := (i 0).isLt
  have h1 : (i 1).val < 2048 := (i 1).isLt
  have h2 : (i 2).val < 2048 := (i 2).isLt
  simp only [blkS, Finset.mem_filter, Finset.mem_univ, true_and]
  rw [Rect.mem_set_unit]
  constructor
  · intro h
    have a0 := h 0
    have a1 := h 1
    change g.val / 4 ≤ (i 0).val ∧ (i 0).val < g.val / 4 + 1 at a0
    change g.val % 4 * 512 ≤ (i 1).val ∧ (i 1).val < g.val % 4 * 512 + 512 at a1
    omega
  · intro h a
    fin_cases a
    · show g.val / 4 ≤ (i 0).val ∧ (i 0).val < g.val / 4 + 1
      omega
    · show g.val % 4 * 512 ≤ (i 1).val ∧ (i 1).val < g.val % 4 * 512 + 512
      omega
    · show 0 ≤ (i 2).val ∧ (i 2).val < 0 + 2048
      omega

theorem slotR_set (s : Fin 2) : (slotR s).set = slotS s.val := by
  ext i
  have h1 : (i 1).val < 512 := (i 1).isLt
  have h2 : (i 2).val < 2048 := (i 2).isLt
  simp only [slotS, Finset.mem_filter, Finset.mem_univ, true_and]
  rw [Rect.mem_set_unit]
  constructor
  · intro h
    have a0 := h 0
    change s.val ≤ (i 0).val ∧ (i 0).val < s.val + 1 at a0
    omega
  · intro h a
    fin_cases a
    · show s.val ≤ (i 0).val ∧ (i 0).val < s.val + 1
      omega
    · show 0 ≤ (i 1).val ∧ (i 1).val < 0 + 512
      omega
    · show 0 ≤ (i 2).val ∧ (i 2).val < 0 + 2048
      omega

/-- Block `g` of an array as the kernel names it; -/
abbrev blkM (M : Memref sig .tc .hbm S8x2048x2048 .f32) (g : Fin 32) : Memref sig .tc .hbm S512x2048 .f32 :=
  (M.slice (blkR g) (fun _ => rfl)).squeeze S512x2048 squeezes_S1x512x2048_S512x2048
/-- slot `s` of a ring; -/
abbrev slotM (M : Memref sig .tc .vmem S2x512x2048 .f32) (s : Fin 2) : Memref sig .tc .vmem S512x2048 .f32 :=
  (M.slice (slotR s) (fun _ => rfl)).squeeze S512x2048 squeezes_S1x512x2048_S512x2048
/-- slot `s`'s cell. -/
abbrev cell (a : DmaSems sig S2) (s : Fin 2) : DmaSem sig :=
  ((a.slice (Rect.unit (s := S2) ![s.val] S1.size (cell_inb s))).squeeze S_ squeezes_S1_S_).sem

/-- A block's elements with its leading axis of one restored. -/
abbrev unsq : S512x2048.Idx ≃ S1x512x2048.Idx := Shape.reshapeEquiv squeezes_S1x512x2048_S512x2048.numel_eq

theorem blkM_set (g : Fin 32) :
    (blkM inM g).view.set = blkS g.val ∧ (blkM outM g).view.set = blkS g.val := by
  constructor
  · exact (View.set_reshape _ _).trans ((View.set_slice_whole _ _).trans (blkR_set g))
  · exact (View.set_reshape _ _).trans ((View.set_slice_whole _ _).trans (blkR_set g))

theorem slotM_set (s : Fin 2) :
    (slotM inRing s).view.set = slotS s.val ∧ (slotM outRing s).view.set = slotS s.val := by
  constructor
  · exact (View.set_reshape _ _).trans ((View.set_slice_whole _ _).trans (slotR_set s))
  · exact (View.set_reshape _ _).trans ((View.set_slice_whole _ _).trans (slotR_set s))

/-- The units one block's copy moves. -/
abbrev NB : ℕ := (blkM outM 0).view.dmaCredit

theorem credits (g : Fin 32) (s : Fin 2) :
    (blkM outM g).view.dmaCredit = NB ∧ (slotM inRing s).view.dmaCredit = NB := ⟨rfl, rfl⟩
theorem NB_pos : 0 < NB := by decide +kernel

end Cert.Proof.KernelIdeal
-- ==== Proof.KernelIdeal.Steps.lean ====
/-
  One step of the program for each kind of access the kernel makes: a word read from or written to the tables, a slot
  loaded or stored, a copy started, a copy waited for. Each is stated at offsets given by an equation, so that it
  applies to the offsets as the kernel computes them.
-/
module

public import proofs.«01_k».proof.Proof.KernelIdeal.Pieces

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

abbrev InBuf (c : Dev nD) : Type := Buf (Elt F) (inM.view.loc (c : Thread nD τ))
abbrev OutBuf (c : Dev nD) : Type := Buf (Elt F) (outM.view.loc (c : Thread nD τ))
abbrev RingBuf (c : Dev nD) : Type := Buf (Elt F) (inRing.view.loc (c : Thread nD τ))
abbrev ORingBuf (c : Dev nD) : Type := Buf (Elt F) (outRing.view.loc (c : Thread nD τ))
abbrev ZeroBuf (c : Dev nD) : Type := Buf (Elt F) (zeroM.view.loc (c : Thread nD τ))
abbrev TabBuf (c : Dev nD) : Type := Buf (Elt F) (tabM.view.loc (c : Thread nD τ))
abbrev BofBuf (c : Dev nD) : Type := Buf (Elt F) (bofM.view.loc (c : Thread nD τ))
abbrev IofBuf (c : Dev nD) : Type := Buf (Elt F) (iofM.view.loc (c : Thread nD τ))

/-! ## The pieces -/

/-- Block `g` of the input. -/
def inP (X : InBuf (F := F) c) (g : ℕ) : sProp 𝕄 := inM.view.loc (c : Thread nD τ) ↦[blkS g]{fullShare} X
/-- Block `g` of the result. -/
def outP (f : OutBuf (F := F) c) (g : ℕ) : sProp 𝕄 := outM.view.loc (c : Thread nD τ) ↦[blkS g]{fullShare} f
/-- Slot `s` of the input ring, at anything; -/
def inSlot (s : Fin 2) : sProp 𝕄 := iprop(∃ f : RingBuf (F := F) c, inRing.view.loc (c : Thread nD τ) ↦[slotS s.val]{fullShare} f)
/-- at the elements `w`; -/
def inSlotAt (s : Fin 2) (w : Vec F S1x512x2048 .f32) : sProp 𝕄 :=
  iprop(∃ f : RingBuf (F := F) c, ⌜∀ y, f (slotAt s y) = w y⌝ ∗ inRing.view.loc (c : Thread nD τ) ↦[slotS s.val]{fullShare} f)
/-- slot `s` of the output ring, at anything, -/
def outSlot (s : Fin 2) : sProp 𝕄 := iprop(∃ f : ORingBuf (F := F) c, outRing.view.loc (c : Thread nD τ) ↦[slotS s.val]{fullShare} f)
/-- and at the elements `w`. -/
def outSlotAt (s : Fin 2) (w : Vec F S1x512x2048 .f32) : sProp 𝕄 :=
  iprop(∃ f : ORingBuf (F := F) c, ⌜∀ y, f (slotAt s y) = w y⌝ ∗ outRing.view.loc (c : Thread nD τ) ↦[slotS s.val]{fullShare} f)

/-- The elements of block `g` of the input. -/
def blkVec (X : InBuf (F := F) c) (g : Fin 32) : Vec F S1x512x2048 .f32 := fun y => X (blkAt g y)

abbrev inCell (s : Fin 2) : SemLoc sig := .dma (cell cc0_scratch3 s)
abbrev outCell (s : Fin 2) : SemLoc sig := .dma (cell cc0_scratch4 s)
abbrev zeroCell : SemLoc sig := .dma cc0_scratch5.sem

/-- Slot `s` of the input ring with no copy in flight; -/
def inFree (s : Fin 2) : sProp 𝕄 := iprop(semVal ((c : Thread nD τ), inCell s) 0 ∗ inSlot (F := F) c s)
/-- with block `g` on its way in. -/
def inFlight (X : InBuf (F := F) c) (s : Fin 2) (g : Fin 32) : sProp 𝕄 :=
  Transfers.Flight (EC (F := F)) (c : Thread nD τ) (inCell s) () NB iprop(inSlotAt c s (blkVec c X g) ∗ inP c X g.val)
/-- Slot `s` of the output ring with no copy in flight; -/
def outFree (s : Fin 2) : sProp 𝕄 := iprop(semVal ((c : Thread nD τ), outCell s) 0 ∗ outSlot (F := F) c s)
/-- with block `g` on its way out. -/
def outFlight (G : OutBuf (F := F) c) (s : Fin 2) (g : ℕ) : sProp 𝕄 :=
  Transfers.Flight (EC (F := F)) (c : Thread nD τ) (outCell s) () NB iprop(outP c G g ∗ outSlot (F := F) c s)

/-- The program that only returns. -/
theorem wp_done {α : Type} (a : α) {Q : α → sProp 𝕄} :
    Q a ⊢ wp (M := 𝕄) frame (wpE (defs₀ (F := F)) 𝒱₀ (c : Thread nD τ) none) Set.univ (Prog.ret a) Q := by
  rw [wp_ret]
  exact BI.fupd_intro

/-- A side condition that holds. -/
theorem wp_cond {α : Type} {P : Prop} {d : Decidable P} (h : P) {k : PLift P → Prog (TpuEff nD τ sig (Elt F) Λ₀ .tc) α} {Q : α → sProp 𝕄} :
    wp (M := 𝕄) frame (wpE (defs₀ (F := F)) 𝒱₀ (c : Thread nD τ) none) Set.univ (k ⟨h⟩) Q ⊢ wp (M := 𝕄) frame (wpE (defs₀ (F := F)) 𝒱₀ (c : Thread nD τ) none) Set.univ (Prog.lift (TpuEff.assume P d) >>= k) Q :=
  wp_assume 𝒱₀ (c : Thread nD τ) none Set.univ h

/-- A conditional whose condition holds, -/
theorem wp_then {α : Type} {P : Prop} [Decidable P] (h : P) {p : P → Prog (TpuEff nD τ sig (Elt F) Λ₀ .tc) α}
    {r : ¬ P → Prog (TpuEff nD τ sig (Elt F) Λ₀ .tc) α} {Q : α → sProp 𝕄} :
    wp (M := 𝕄) frame (wpE (defs₀ (F := F)) 𝒱₀ (c : Thread nD τ) none) Set.univ (p h) Q ⊢ wp (M := 𝕄) frame (wpE (defs₀ (F := F)) 𝒱₀ (c : Thread nD τ) none) Set.univ (if h : P then p h else r h) Q := by
  rw [dif_pos h]

/-- and one whose condition fails. -/
theorem wp_else {α : Type} {P : Prop} [Decidable P] (h : ¬ P) {p : P → Prog (TpuEff nD τ sig (Elt F) Λ₀ .tc) α}
    {r : ¬ P → Prog (TpuEff nD τ sig (Elt F) Λ₀ .tc) α} {Q : α → sProp 𝕄} :
    wp (M := 𝕄) frame (wpE (defs₀ (F := F)) 𝒱₀ (c : Thread nD τ) none) Set.univ (r h) Q ⊢ wp (M := 𝕄) frame (wpE (defs₀ (F := F)) 𝒱₀ (c : Thread nD τ) none) Set.univ (if h : P then p h else r h) Q := by
  rw [dif_neg h]

/-- A counted loop of `n` trips. -/
theorem wp_loop {σ α : Type} (l : Scf.Loop 32) (n : ℕ) (hn : l.trips = n) (hok : l.OK) (init : σ)
    (body : Fin l.trips → σ → Prog (TpuEff nD τ sig (Elt F) Λ₀ .tc) σ) (I : ℕ → σ → sProp 𝕄)
    (hbody : ∀ (k : Fin l.trips) (acc : σ), I k.val acc ⊢ wp (M := 𝕄) frame (wpE (defs₀ (F := F)) 𝒱₀ (c : Thread nD τ) none) Set.univ (body k acc) (I (k.val + 1)))
    {kk : σ → Prog (TpuEff nD τ sig (Elt F) Λ₀ .tc) α} {Q : α → sProp 𝕄} :
    I 0 init ⊢ iprop((∀ acc, I n acc -∗ wp (M := 𝕄) frame (wpE (defs₀ (F := F)) 𝒱₀ (c : Thread nD τ) none) Set.univ (kk acc) Q)
      -∗ wp (M := 𝕄) frame (wpE (defs₀ (F := F)) 𝒱₀ (c : Thread nD τ) none) Set.univ (Scf.Loop.for l hok init body >>= kk) Q) := by
  subst hn
  exact Scf.wp_for_bind frame (wpE (defs₀ (F := F)) 𝒱₀ (c : Thread nD τ) none) Set.univ _ _ _ hok init body I hbody

/-- One of no trips. -/
theorem wp_loop_none {σ α : Type} (l : Scf.Loop 32) (hn : l.trips = 0) (hok : l.OK) (init : σ)
    (body : Fin l.trips → σ → Prog (TpuEff nD τ sig (Elt F) Λ₀ .tc) σ) (P : σ → sProp 𝕄)
    {kk : σ → Prog (TpuEff nD τ sig (Elt F) Λ₀ .tc) α} {Q : α → sProp 𝕄} :
    P init ⊢ iprop((∀ acc, P acc -∗ wp (M := 𝕄) frame (wpE (defs₀ (F := F)) 𝒱₀ (c : Thread nD τ) none) Set.univ (kk acc) Q)
      -∗ wp (M := 𝕄) frame (wpE (defs₀ (F := F)) 𝒱₀ (c : Thread nD τ) none) Set.univ (Scf.Loop.for l hok init body >>= kk) Q) :=
  wp_loop c l 0 hn hok init body (fun _ => P) fun k _ => (Nat.not_lt_zero _ (Nat.lt_of_lt_of_eq k.isLt hn)).elim

/-- The same at the end of a program. -/
theorem wp_loop_none_last {σ : Type} (l : Scf.Loop 32) (hn : l.trips = 0) (hok : l.OK) (init : σ)
    (body : Fin l.trips → σ → Prog (TpuEff nD τ sig (Elt F) Λ₀ .tc) σ) {Q : σ → sProp 𝕄} :
    iprop(∀ acc, ⌜acc = init⌝ -∗ Q acc) ⊢ wp (M := 𝕄) frame (wpE (defs₀ (F := F)) 𝒱₀ (c : Thread nD τ) none) Set.univ (Scf.Loop.for l hok init body) Q := by
  iintro H
  iapply (Scf.wp_for frame (wpE (defs₀ (F := F)) 𝒱₀ (c : Thread nD τ) none) Set.univ _ _ _ hok init body (fun _ acc => iprop(⌜acc = init⌝))
    fun k _ => (Nat.not_lt_zero _ (Nat.lt_of_lt_of_eq k.isLt hn)).elim)
  isplitr
  · ipureintro; rfl
  · iexact H

/-! ## Copies -/

section Copies
variable {α : Type}

local notation "wp'" => wp (M := 𝕄) frame (wpE (defs₀ (F := F)) 𝒱₀ (c : Thread nD τ) none) Set.univ

theorem start_in (X : InBuf (F := F) c) (g : Fin 32) (s : Fin 2) {off offS : Fin 3 → ℕ} {offC : Fin 1 → ℕ}
    (e : off = ![g.val / 4, g.val % 4 * 512, 0]) (eS : offS = ![s.val, 0, 0]) (eC : offC = ![s.val])
    {h : ∀ a, off a + S1x512x2048.size a ≤ S8x2048x2048.size a} {hS : ∀ a, offS a + S1x512x2048.size a ≤ S2x512x2048.size a}
    {hC : ∀ a, offC a + S1.size a ≤ S2.size a} {h1 : ∀ a, (Rect.unit (s := S8x2048x2048) off S1x512x2048.size h).stride a = 1}
    {h2 : ∀ a, (Rect.unit (s := S2x512x2048) offS S1x512x2048.size hS).stride a = 1} {h3 h4 h5 h6 h7 h8}
    {k : PUnit → Prog (TpuEff nD τ sig (Elt F) Λ₀ .tc) α} {Q : α → sProp 𝕄} :
    iprop(inP c X g.val ∗ inFree (F := F) c s)
      ⊢ iprop((inFlight c X s g -∗ wp' (k ⟨⟩) Q)
        -∗ wp' (Prog.lift (TpuEff.enqueueDma
              ((inM.slice (Rect.unit (s := S8x2048x2048) off S1x512x2048.size h) h1).squeeze S512x2048 h3)
              (.here ((inRing.slice (Rect.unit (s := S2x512x2048) offS S1x512x2048.size hS) h2).squeeze S512x2048 h4))
              (.dma ((cc0_scratch3.slice (Rect.unit (s := S2) offC S1.size hC)).squeeze S_ h5).sem) h6 h7 h8) >>= k) Q) := by
  subst e eS eC
  unfold inFree inSlot inFlight inP
  iintro ⟨Hx, Hc, %f, Hs⟩ Hk
  have key := Transfers.wp_dmaLocal (EC (F := F)) 𝒱₀ (defs := defs₀ (F := F)) (c : Thread nD τ) none (Q := Q) (src := blkM inM g)
    (dst := slotM inRing s) (via := .same) (sm := inCell s) (hsrc := h6) (hdst := h7) (hsem := h8) (k := k)
    (q := fullShare) (fs := X) (Sd := slotS s.val) (fd := f) () NB rfl NB_pos (slotM_set s).1.le
  rw [(blkM_set g).1] at key
  iapply key $$ [Hx Hc Hs]
  · isplitl [Hx]; · iexact Hx
    isplitl [Hs]; · iexact Hs
    iexact Hc
  iintro HF
  iapply Hk
  iapply (Transfers.Flight_mono (EC (F := F)) (c : Thread nD τ) ?_) $$ HF
  unfold inSlotAt
  iintro ⟨Hs, Hx⟩
  isplitl [Hs]
  · iexists _
    isplitr; swap; · iexact Hs
    ipureintro
    intro y
    obtain ⟨x, rfl⟩ := unsq.surjective y
    exact View.write_emb_of_mem (v := (slotM inRing s).view) (Val := Elt F) _ _ (Finset.mem_univ x)
  · iexact Hx

theorem blkAt_surj {g : Fin 32} {i : S8x2048x2048.Idx} (hi : i ∈ blkS g.val) : ∃ y, blkAt g y = i := by
  rw [← blkR_set g] at hi
  exact (blkR g).exists_idx_of_mem hi

theorem start_out (G f₀ : OutBuf (F := F) c) (w : Vec F S1x512x2048 .f32) (g : Fin 32) (s : Fin 2) (hG : ∀ y, G (blkAt g y) = w y)
    {off offS : Fin 3 → ℕ} {offC : Fin 1 → ℕ}
    (e : off = ![g.val / 4, g.val % 4 * 512, 0]) (eS : offS = ![s.val, 0, 0]) (eC : offC = ![s.val])
    {h : ∀ a, off a + S1x512x2048.size a ≤ S8x2048x2048.size a} {hS : ∀ a, offS a + S1x512x2048.size a ≤ S2x512x2048.size a}
    {hC : ∀ a, offC a + S1.size a ≤ S2.size a} {h1 : ∀ a, (Rect.unit (s := S8x2048x2048) off S1x512x2048.size h).stride a = 1}
    {h2 : ∀ a, (Rect.unit (s := S2x512x2048) offS S1x512x2048.size hS).stride a = 1} {h3 h4 h5 h6 h7 h8}
    {k : PUnit → Prog (TpuEff nD τ sig (Elt F) Λ₀ .tc) α} {Q : α → sProp 𝕄} :
    iprop(outSlotAt c s w ∗ outP c f₀ g.val ∗ semVal ((c : Thread nD τ), outCell s) 0)
      ⊢ iprop((outFlight c G s g.val -∗ wp' (k ⟨⟩) Q)
        -∗ wp' (Prog.lift (TpuEff.enqueueDma
              ((outRing.slice (Rect.unit (s := S2x512x2048) offS S1x512x2048.size hS) h2).squeeze S512x2048 h4)
              (.here ((outM.slice (Rect.unit (s := S8x2048x2048) off S1x512x2048.size h) h1).squeeze S512x2048 h3))
              (.dma ((cc0_scratch4.slice (Rect.unit (s := S2) offC S1.size hC)).squeeze S_ h5).sem) h6 h7 h8) >>= k) Q) := by
  subst e eS eC
  unfold outSlotAt outFlight outP
  iintro ⟨⟨%f, %hf, Hs⟩, Ho, Hc⟩ Hk
  have key := Transfers.wp_dmaLocal (EC (F := F)) 𝒱₀ (defs := defs₀ (F := F)) (c : Thread nD τ) none (Q := Q) (src := slotM outRing s)
    (dst := blkM outM g) (via := .same) (sm := outCell s) (hsrc := h6) (hdst := h7) (hsem := h8) (k := k)
    (q := fullShare) (fs := f) (Sd := blkS g.val) (fd := f₀) () NB rfl NB_pos (blkM_set g).2.le
  rw [(slotM_set s).2] at key
  iapply key $$ [Hs Ho Hc]
  · isplitl [Hs]; · iexact Hs
    isplitl [Ho]; · iexact Ho
    iexact Hc
  iintro HF
  iapply Hk
  iapply (Transfers.Flight_mono (EC (F := F)) (c : Thread nD τ) ?_) $$ HF
  refine BIClass.sep_mono ?_ (exists_intro (Φ := fun f' : ORingBuf (F := F) c => iprop(outRing.view.loc (c : Thread nD τ) ↦[slotS s.val]{fullShare} f')) f)
  refine Entails.of_eq (pointsTo_congr fun i hi => ?_)
  obtain ⟨y, rfl⟩ := blkAt_surj hi
  obtain ⟨x, rfl⟩ := unsq.surjective y
  rw [hG, ← hf]
  exact View.write_emb_of_mem (v := (blkM outM g).view) (Val := Elt F) _ _ (Finset.mem_univ x)

/-- The wait for block `g` on its way in. -/
theorem wait_in (X : InBuf (F := F) c) (g : Fin 32) (s : Fin 2) {offC : Fin 1 → ℕ} (eC : offC = ![s.val])
    {hC : ∀ a, offC a + S1.size a ≤ S2.size a} {h5} {W : Waits sig Unit}
    {sp' : Space} {s' : Shape} {e' : EltTy} {srcw : Memref sig .tc sp' s' e'} {hsrc : srcw.view.WordExact}
    {off : Fin 3 → ℕ} {h : ∀ a, off a + S1x512x2048.size a ≤ S2x512x2048.size a}
    {h1 : ∀ a, (Rect.unit (s := S2x512x2048) off S1x512x2048.size h).stride a = 1} {h3 hdst} {k : PUnit → Prog (TpuEff nD τ sig (Elt F) Λ₀ .tc) α} {Q : α → sProp 𝕄} :
    iprop(inFlight c X s g ∗ owes (c : Thread nD τ) 0 W)
      ⊢ iprop((iprop((inSlotAt c s (blkVec c X g) ∗ inP c X g.val) ∗ semVal ((c : Thread nD τ), inCell s) 0
            ∗ ∃ W, owes (c : Thread nD τ) 0 W) -∗ wp' (k ⟨⟩) Q)
        -∗ wp' (Prog.lift (TpuEff.waitDma2 ((cc0_scratch3.slice (Rect.unit (s := S2) offC S1.size hC)).squeeze S_ h5).sem
              srcw ((inRing.slice (Rect.unit (s := S2x512x2048) off S1x512x2048.size h) h1).squeeze S512x2048 h3) hsrc hdst) >>= k) Q) := by
  subst eC
  unfold inFlight
  have hN : ((inRing.slice (Rect.unit (s := S2x512x2048) off S1x512x2048.size h) h1).squeeze S512x2048 h3).view.dmaCredit = NB := rfl
  iintro H Hk
  iapply (Transfers.wp_waitLocal (EC (F := F)) 𝒱₀ (defs := defs₀ (F := F)) (c : Thread nD τ) none (Q := Q) () hN) $$ H
  iintro ⟨HD, Hc, HO⟩
  iapply Hk
  isplitl [HD]; · iexact HD
  isplitl [Hc]; · iexact Hc
  iexists _
  iexact HO

/-- The wait for block `g` on its way out. -/
theorem wait_out (G : OutBuf (F := F) c) (g : ℕ) (s : Fin 2) {offC : Fin 1 → ℕ} (eC : offC = ![s.val])
    {hC : ∀ a, offC a + S1.size a ≤ S2.size a} {h5} {W : Waits sig Unit}
    {sp' : Space} {s' : Shape} {e' : EltTy} {srcw : Memref sig .tc sp' s' e'} {hsrc : srcw.view.WordExact}
    {off : Fin 3 → ℕ} {h : ∀ a, off a + S1x512x2048.size a ≤ S8x2048x2048.size a}
    {h1 : ∀ a, (Rect.unit (s := S8x2048x2048) off S1x512x2048.size h).stride a = 1} {h3 hdst} {k : PUnit → Prog (TpuEff nD τ sig (Elt F) Λ₀ .tc) α} {Q : α → sProp 𝕄} :
    iprop(outFlight c G s g ∗ owes (c : Thread nD τ) 0 W)
      ⊢ iprop((iprop((outP c G g ∗ outSlot (F := F) c s) ∗ semVal ((c : Thread nD τ), outCell s) 0
            ∗ ∃ W, owes (c : Thread nD τ) 0 W) -∗ wp' (k ⟨⟩) Q)
        -∗ wp' (Prog.lift (TpuEff.waitDma2 ((cc0_scratch4.slice (Rect.unit (s := S2) offC S1.size hC)).squeeze S_ h5).sem
              srcw ((outM.slice (Rect.unit (s := S8x2048x2048) off S1x512x2048.size h) h1).squeeze S512x2048 h3) hsrc hdst) >>= k) Q) := by
  subst eC
  unfold outFlight
  have hN : ((outM.slice (Rect.unit (s := S8x2048x2048) off S1x512x2048.size h) h1).squeeze S512x2048 h3).view.dmaCredit = NB := rfl
  iintro H Hk
  iapply (Transfers.wp_waitLocal (EC (F := F)) 𝒱₀ (defs := defs₀ (F := F)) (c : Thread nD τ) none (Q := Q) () hN) $$ H
  iintro ⟨HD, Hc, HO⟩
  iapply Hk
  isplitl [HD]; · iexact HD
  isplitl [Hc]; · iexact Hc
  iexists _
  iexact HO

/-- A share `q` of the zero block, holding `Z`. -/
def zeroP (Z : ZeroBuf (F := F) c) (q : PosShare TreeShare) : sProp 𝕄 := zeroM.view.loc (c : Thread nD τ) ↦{q} Z

/-- The copy of the zero block over block `g` of the result, as the `j`-th of the copies on the zero copies' cell. -/
theorem start_zero (G f₀ : OutBuf (F := F) c) (Z : ZeroBuf (F := F) c) (q : PosShare TreeShare) (g : Fin 32)
    (hG : ∀ x, G (blkAt g (unsq x)) = Z x)
    {n : ℕ} {D : Fin n → sProp 𝕄} {j : ℕ} (hj : j < n)
    (hD : iprop(outP c G g.val ∗ zeroP c Z q) ⊢ D ⟨j, hj⟩)
    {off : Fin 3 → ℕ} (e : off = ![g.val / 4, g.val % 4 * 512, 0])
    {h : ∀ a, off a + S1x512x2048.size a ≤ S8x2048x2048.size a}
    {h1 : ∀ a, (Rect.unit (s := S8x2048x2048) off S1x512x2048.size h).stride a = 1} {h3 h6 h7 h8}
    {k : PUnit → Prog (TpuEff nD τ sig (Elt F) Λ₀ .tc) α} {Q : α → sProp 𝕄} :
    iprop(zeroP c Z q ∗ outP c f₀ g.val ∗ Transfers.Batch (EC (F := F)) (c : Thread nD τ) zeroCell () NB D j 0)
      ⊢ iprop((Transfers.Batch (EC (F := F)) (c : Thread nD τ) zeroCell () NB D (j + 1) 0 -∗ wp' (k ⟨⟩) Q)
        -∗ wp' (Prog.lift (TpuEff.enqueueDma zeroM
              (.here ((outM.slice (Rect.unit (s := S8x2048x2048) off S1x512x2048.size h) h1).squeeze S512x2048 h3))
              (.dma cc0_scratch5.sem) h6 h7 h8) >>= k) Q) := by
  subst e
  unfold zeroP outP at *
  have key := Transfers.wp_dmaBatch (EC (F := F)) 𝒱₀ (defs := defs₀ (F := F)) (c : Thread nD τ) none (Q := Q) (src := zeroM)
    (dst := blkM outM g) (via := .same) (sm := zeroCell) (hsrc := h6) (hdst := h7) (hsem := h8) (k := k)
    (q := q) (fs := Z) (Sd := blkS g.val) (fd := f₀) (D := D) (j := j) (u := 0) () NB rfl (blkM_set g).2.le hj (Nat.zero_le _)
    (by
      refine BIBase.Entails.trans (BIClass.sep_mono (Entails.of_eq (pointsTo_congr fun i hi => ?_)) ?_) hD
      · obtain ⟨y, rfl⟩ := blkAt_surj hi
        obtain ⟨x, rfl⟩ := unsq.surjective y
        rw [hG]
        exact View.write_emb_of_mem (v := (blkM outM g).view) (Val := Elt F) _ _ (Finset.mem_univ x)
      · rw [View.set_whole])
  rw [View.set_whole] at key
  exact key

end Copies

/-! ## Slots loaded and stored -/

section Slots
variable {α : Type}

local notation "wp'" => wp (M := 𝕄) frame (wpE (defs₀ (F := F)) 𝒱₀ (c : Thread nD τ) none) Set.univ

theorem load_slot (s : Fin 2) (w : Vec F S1x512x2048 .f32) {offS : Fin 3 → ℕ} (eS : offS = ![s.val, 0, 0])
    {hS : ∀ a, offS a + S1x512x2048.size a ≤ S2x512x2048.size a} {hl}
    {k : Vec F S1x512x2048 .f32 → Prog (TpuEff nD τ sig (Elt F) Λ₀ .tc) α} {Q : α → sProp 𝕄} :
    inSlotAt c s w ⊢ iprop((inSlotAt c s w -∗ wp' (k w) Q)
        -∗ wp' (Prog.lift (TpuEff.load inRing (Rect.unit (s := S2x512x2048) offS S1x512x2048.size hS) hl) >>= k) Q) := by
  subst eS
  unfold inSlotAt
  iintro ⟨%f, %hf, Hs⟩ Hk
  iapply (wp_load_rect 𝒱₀ (defs := defs₀ (F := F)) (c : Thread nD τ) none Set.univ (Q := Q) (m := inRing) (r := slotR s)
    (S := slotS s.val) (f := f) ((View.set_slice_whole _ _).trans (slotR_set s)).le) $$ Hs
  iintro Hs
  have e : (inRing.access (slotR s)).read (Elt F) f = w := funext hf
  rw [e]
  iapply Hk
  iexists f
  isplitr
  · ipureintro; exact hf
  · iexact Hs

/-- A load whose value is not used. -/
theorem peek_slot (s : Fin 2) {offS : Fin 3 → ℕ} (eS : offS = ![s.val, 0, 0])
    {hS : ∀ a, offS a + S1x512x2048.size a ≤ S2x512x2048.size a} {hl}
    {k : Prog (TpuEff nD τ sig (Elt F) Λ₀ .tc) α} {Q : α → sProp 𝕄} :
    outSlot (F := F) c s ⊢ iprop((outSlot (F := F) c s -∗ wp' k Q)
        -∗ wp' (Prog.lift (TpuEff.load outRing (Rect.unit (s := S2x512x2048) offS S1x512x2048.size hS) hl) >>= fun _ => k) Q) := by
  subst eS
  unfold outSlot
  iintro ⟨%f, Hs⟩ Hk
  iapply (wp_load_rect 𝒱₀ (defs := defs₀ (F := F)) (c : Thread nD τ) none Set.univ (Q := Q) (m := outRing) (r := slotR s)
    (S := slotS s.val) (f := f) ((View.set_slice_whole _ _).trans (slotR_set s)).le) $$ Hs
  iintro Hs
  iapply Hk
  iexists f
  iexact Hs

theorem store_slot (s : Fin 2) (w : Vec F S1x512x2048 .f32) {offS : Fin 3 → ℕ} (eS : offS = ![s.val, 0, 0])
    {hS : ∀ a, offS a + S1x512x2048.size a ≤ S2x512x2048.size a} {hx hm}
    {k : PUnit → Prog (TpuEff nD τ sig (Elt F) Λ₀ .tc) α} {Q : α → sProp 𝕄} :
    outSlot (F := F) c s ⊢ iprop((outSlotAt c s w -∗ wp' (k ⟨⟩) Q)
        -∗ wp' (Prog.lift (TpuEff.store outRing (Rect.unit (s := S2x512x2048) offS S1x512x2048.size hS) w Finset.univ hx hm) >>= k) Q) := by
  subst eS
  unfold outSlot outSlotAt
  iintro ⟨%f, Hs⟩ Hk
  iapply (wp_store 𝒱₀ (defs := defs₀ (F := F)) (c : Thread nD τ) none Set.univ (Q := Q) (m := outRing) (r := slotR s)
    (Mk := Finset.univ) (S := slotS s.val) (f := f)
    ((View.setOn_univ _).trans ((View.set_slice_whole _ _).trans (slotR_set s))).le) $$ Hs
  iintro Hs
  iapply Hk
  iexists _
  isplitr; swap; · iexact Hs
  ipureintro
  intro y
  exact View.write_emb_of_mem (v := outRing.access (slotR s)) (Val := Elt F) _ _ (Finset.mem_univ y)

end Slots

/-! ## Words of the tables -/

section Tables
variable {α : Type}

local notation "wp'" => wp (M := 𝕄) frame (wpE (defs₀ (F := F)) 𝒱₀ (c : Thread nD τ) none) Set.univ

/-- Word `j` of a list; -/
abbrev at33 (j : Fin 33) : S33.Idx := fun a => ⟨j.val, by fin_cases a; exact j.isLt⟩
/-- word `b` of the table. -/
abbrev at8 (b : Fin 8) : S8.Idx := fun a => ⟨b.val, by fin_cases a; exact b.isLt⟩

theorem emb33 (j : Fin 33) (h : ∀ a, (![j.val] : Fin 1 → ℕ) a + S1.size a ≤ S33.size a) (x : (Rect.unit (s := S33) ![j.val] S1.size h).shape.Idx) :
    (Rect.unit (s := S33) ![j.val] S1.size h).emb x = at33 j := by
  funext a
  apply Fin.ext
  rw [ValueKit.rect_emb_unit_val]
  fin_cases a
  have : (x 0).val < 1 := (x 0).isLt
  show j.val + (x 0).val = j.val
  omega

theorem emb8 (j : Fin 8) (h : ∀ a, (![j.val] : Fin 1 → ℕ) a + S1.size a ≤ S8.size a) (x : (Rect.unit (s := S8) ![j.val] S1.size h).shape.Idx) :
    (Rect.unit (s := S8) ![j.val] S1.size h).emb x = at8 j := by
  funext a
  apply Fin.ext
  rw [ValueKit.rect_emb_unit_val]
  fin_cases a
  have : (x 0).val < 1 := (x 0).isLt
  show j.val + (x 0).val = j.val
  omega

theorem not_mem33 {i j : Fin 33} (hi : i ≠ j) (h : ∀ a, (![j.val] : Fin 1 → ℕ) a + S1.size a ≤ S33.size a) :
    at33 i ∉ (Rect.unit (s := S33) ![j.val] S1.size h).set := by
  rw [Rect.mem_set_unit]
  intro hm
  have := hm 0
  change j.val ≤ i.val ∧ i.val < j.val + 1 at this
  exact hi (Fin.ext (by omega))

theorem load_tab (f : TabBuf (F := F) c) (q : PosShare TreeShare) (b : Fin 8) {off : Fin 1 → ℕ} (e : off = ![b.val])
    {h : ∀ a, off a + S1.size a ≤ S8.size a} {h1 hp}
    {k : BitVec 32 → Prog (TpuEff nD τ sig (Elt F) Λ₀ .tc) α} {Q : α → sProp 𝕄} :
    (tabM.view.loc (c : Thread nD τ) ↦{q} f : sProp 𝕄)
      ⊢ iprop(((tabM.view.loc (c : Thread nD τ) ↦{q} f) -∗ wp' (k (f (at8 b))) Q)
        -∗ wp' ((smemLoad tabM (Rect.unit (s := S8) off S1.size h) h1 hp : Prog (TpuEff nD τ sig (Elt F) Λ₀ .tc) (Elt F .i32)) >>= k) Q) := by
  subst e
  iintro H Hk
  iapply (wp_smemLoadElt 𝒱₀ (defs := defs₀ (F := F)) (c : Thread nD τ) none Set.univ (Q := Q) (m := tabM)
    (r := Rect.unit (s := S8) ![b.val] S1.size h) (hw := View.loads_smem_one hp h1) (x := Shape.Idx.first (h1.symm ▸ Nat.one_pos))
    (S := Finset.univ) (f := f) (k := k) (Finset.subset_univ _)) $$ H
  iintro H
  rw [show (tabM.access (Rect.unit (s := S8) ![b.val] S1.size h)).read (Elt F) f (Shape.Idx.first (h1.symm ▸ Nat.one_pos)) = f (at8 b) from
    congrArg f (emb8 b h _)]
  iapply Hk
  iexact H

theorem load_bof (f : BofBuf (F := F) c) (j : Fin 33) {off : Fin 1 → ℕ} (e : off = ![j.val])
    {h : ∀ a, off a + S1.size a ≤ S33.size a} {h1 hp}
    {k : BitVec 32 → Prog (TpuEff nD τ sig (Elt F) Λ₀ .tc) α} {Q : α → sProp 𝕄} :
    (bofM.view.loc (c : Thread nD τ) ↦{fullShare} f : sProp 𝕄)
      ⊢ iprop(((bofM.view.loc (c : Thread nD τ) ↦{fullShare} f) -∗ wp' (k (f (at33 j))) Q)
        -∗ wp' ((smemLoad bofM (Rect.unit (s := S33) off S1.size h) h1 hp : Prog (TpuEff nD τ sig (Elt F) Λ₀ .tc) (Elt F .i32)) >>= k) Q) := by
  subst e
  iintro H Hk
  iapply (wp_smemLoadElt 𝒱₀ (defs := defs₀ (F := F)) (c : Thread nD τ) none Set.univ (Q := Q) (m := bofM)
    (r := Rect.unit (s := S33) ![j.val] S1.size h) (hw := View.loads_smem_one hp h1) (x := Shape.Idx.first (h1.symm ▸ Nat.one_pos))
    (S := Finset.univ) (f := f) (k := k) (Finset.subset_univ _)) $$ H
  iintro H
  rw [show (bofM.access (Rect.unit (s := S33) ![j.val] S1.size h)).read (Elt F) f (Shape.Idx.first (h1.symm ▸ Nat.one_pos)) = f (at33 j) from
    congrArg f (emb33 j h _)]
  iapply Hk
  iexact H

theorem load_iof (f : IofBuf (F := F) c) (j : Fin 33) {off : Fin 1 → ℕ} (e : off = ![j.val])
    {h : ∀ a, off a + S1.size a ≤ S33.size a} {h1 hp}
    {k : BitVec 32 → Prog (TpuEff nD τ sig (Elt F) Λ₀ .tc) α} {Q : α → sProp 𝕄} :
    (iofM.view.loc (c : Thread nD τ) ↦{fullShare} f : sProp 𝕄)
      ⊢ iprop(((iofM.view.loc (c : Thread nD τ) ↦{fullShare} f) -∗ wp' (k (f (at33 j))) Q)
        -∗ wp' ((smemLoad iofM (Rect.unit (s := S33) off S1.size h) h1 hp : Prog (TpuEff nD τ sig (Elt F) Λ₀ .tc) (Elt F .i32)) >>= k) Q) := by
  subst e
  iintro H Hk
  iapply (wp_smemLoadElt 𝒱₀ (defs := defs₀ (F := F)) (c : Thread nD τ) none Set.univ (Q := Q) (m := iofM)
    (r := Rect.unit (s := S33) ![j.val] S1.size h) (hw := View.loads_smem_one hp h1) (x := Shape.Idx.first (h1.symm ▸ Nat.one_pos))
    (S := Finset.univ) (f := f) (k := k) (Finset.subset_univ _)) $$ H
  iintro H
  rw [show (iofM.access (Rect.unit (s := S33) ![j.val] S1.size h)).read (Elt F) f (Shape.Idx.first (h1.symm ▸ Nat.one_pos)) = f (at33 j) from
    congrArg f (emb33 j h _)]
  iapply Hk
  iexact H

theorem store_bof (f : BofBuf (F := F) c) (j : Fin 33) (w : BitVec 32) {off : Fin 1 → ℕ} (e : off = ![j.val])
    {h : ∀ a, off a + S1.size a ≤ S33.size a} {hx hm}
    {k : PUnit → Prog (TpuEff nD τ sig (Elt F) Λ₀ .tc) α} {Q : α → sProp 𝕄} :
    (bofM.view.loc (c : Thread nD τ) ↦{fullShare} f : sProp 𝕄)
      ⊢ iprop((∀ f', ⌜f' (at33 j) = w ∧ ∀ i, i ≠ j → f' (at33 i) = f (at33 i)⌝ -∗ (bofM.view.loc (c : Thread nD τ) ↦{fullShare} f') -∗ wp' (k ⟨⟩) Q)
        -∗ wp' (Prog.lift (TpuEff.store bofM (Rect.unit (s := S33) off S1.size h) (fun _ => w) Finset.univ hx hm) >>= k) Q) := by
  subst e
  iintro H Hk
  iapply (wp_store 𝒱₀ (defs := defs₀ (F := F)) (c : Thread nD τ) none Set.univ (Q := Q) (m := bofM)
    (r := Rect.unit (s := S33) ![j.val] S1.size h) (Mk := Finset.univ) (S := Finset.univ) (f := f) (Finset.subset_univ _)) $$ H
  iintro H
  iapply Hk $$ [] H
  ipureintro
  refine ⟨?_, fun i hi => ?_⟩
  · rw [← emb33 j h (Shape.Idx.first (show 0 < S1.numel by decide))]
    exact View.write_emb_of_mem (v := bofM.access (Rect.unit (s := S33) ![j.val] S1.size h)) (Val := Elt F) _ _ (Finset.mem_univ _)
  · refine View.write_of_not_mem (v := bofM.access (Rect.unit (s := S33) ![j.val] S1.size h)) (Val := Elt F) _ _ _ ?_
    rw [View.setOn_univ]
    exact fun hm => not_mem33 hi h ((Finset.ext_iff.mp (View.set_slice_whole _ _) _).mp hm)

theorem store_iof (f : IofBuf (F := F) c) (j : Fin 33) (w : BitVec 32) {off : Fin 1 → ℕ} (e : off = ![j.val])
    {h : ∀ a, off a + S1.size a ≤ S33.size a} {hx hm}
    {k : PUnit → Prog (TpuEff nD τ sig (Elt F) Λ₀ .tc) α} {Q : α → sProp 𝕄} :
    (iofM.view.loc (c : Thread nD τ) ↦{fullShare} f : sProp 𝕄)
      ⊢ iprop((∀ f', ⌜f' (at33 j) = w ∧ ∀ i, i ≠ j → f' (at33 i) = f (at33 i)⌝ -∗ (iofM.view.loc (c : Thread nD τ) ↦{fullShare} f') -∗ wp' (k ⟨⟩) Q)
        -∗ wp' (Prog.lift (TpuEff.store iofM (Rect.unit (s := S33) off S1.size h) (fun _ => w) Finset.univ hx hm) >>= k) Q) := by
  subst e
  iintro H Hk
  iapply (wp_store 𝒱₀ (defs := defs₀ (F := F)) (c : Thread nD τ) none Set.univ (Q := Q) (m := iofM)
    (r := Rect.unit (s := S33) ![j.val] S1.size h) (Mk := Finset.univ) (S := Finset.univ) (f := f) (Finset.subset_univ _)) $$ H
  iintro H
  iapply Hk $$ [] H
  ipureintro
  refine ⟨?_, fun i hi => ?_⟩
  · rw [← emb33 j h (Shape.Idx.first (show 0 < S1.numel by decide))]
    exact View.write_emb_of_mem (v := iofM.access (Rect.unit (s := S33) ![j.val] S1.size h)) (Val := Elt F) _ _ (Finset.mem_univ _)
  · refine View.write_of_not_mem (v := iofM.access (Rect.unit (s := S33) ![j.val] S1.size h)) (Val := Elt F) _ _ _ ?_
    rw [View.setOn_univ]
    exact fun hm => not_mem33 hi h ((Finset.ext_iff.mp (View.set_slice_whole _ _) _).mp hm)

end Tables

end Cert.Proof.KernelIdeal
-- ==== Proof.KernelIdeal.Zero.lean ====
/-
  The copies of the zero block: the first pair of nested loops starts one over every block that holds no live row, on
  one cell; the last loop waits for them all.
-/
module

public import proofs.«01_k».proof.Proof.KernelIdeal.Steps

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

local notation "wp'" => wp (M := 𝕄) frame (wpE (defs₀ (F := F)) 𝒱₀ (c : Thread nD τ) none) Set.univ

/-- The table holds the counts `nr`, at most an array's height each. -/
structure Counts (T : TabBuf (F := F) c) (nr : ℕ → ℕ) : Prop where
  word : ∀ b : Fin 8, T (at8 b) = BitVec.ofNat 32 (nr b.val)
  le : ∀ b, nr b ≤ 2048

section
variable (nr : ℕ → ℕ) (G f₀ : OutBuf (F := F) c) (Z : ZeroBuf (F := F) c)

/-- How many blocks hold no live row. -/
abbrev NZ : ℕ := Nat.count (dead nr) 32

/-- The share of the zero block the `j`-th copy reads. -/
abbrev zshare (j : ℕ) : PosShare TreeShare := Transfers.shareTokN fullShare j

/-- What the `j`-th copy delivers. -/
def zDone (j : ℕ) : sProp 𝕄 := iprop(outP c G (nth (dead nr) j) ∗ zeroP c Z (zshare j))

/-- What the copy over block `g` takes. -/
def zPiece (g : ℕ) : sProp 𝕄 := iprop(zeroP c Z (zshare (Nat.count (dead nr) g)) ∗ outP c f₀ g)

abbrev zBatch (j u : ℕ) : sProp 𝕄 :=
  Transfers.Batch (EC (F := F)) (c : Thread nD τ) zeroCell () NB (fun j : Fin (NZ nr) => zDone c nr G Z j.val) j u

/-- The state with the blocks below `g` gone over, `acc` the number of copies started. -/
def zInv (g : ℕ) (acc : BitVec 32) : sProp 𝕄 :=
  iprop(⌜acc = BitVec.ofNat 32 (Nat.count (dead nr) g)⌝ ∗ zBatch c nr G Z (Nat.count (dead nr) g) 0
    ∗ bigSep (todo (dead nr) (Nat.count (dead nr) g)) (zPiece c nr f₀ Z))

variable {nr G f₀ Z}

/-- One block gone over. -/
theorem zero_step (hG : ∀ g : Fin 32, dead nr g.val → ∀ x, G (blkAt g (unsq x)) = Z x) {T : TabBuf (F := F) c} (hT : Counts c T nr) (i : grid0.Coords) {h1 h2 h3 h4 h5 h6 h10 h11}
    (t : Fin k0_t1_loop.trips) (hw : k0_chk1 t (BitVec.ofNat 32 (nr t.val)))
    (u : Fin (k0_t2_loop (BitVec.ofNat 32 (nr t.val))).trips) (acc : BitVec 32) :
    zInv c nr G f₀ Z (4 * t.val + (nr t.val + 511) / 512 + u.val) acc
      ⊢ wp' (k0_t2_body i tabM h1 inM h2 outM h3 inRing h4 outRing h5 zeroM h6 cc0_scratch3 cc0_scratch4 cc0_scratch5 bofM h10 iofM h11
          t (BitVec.ofNat 32 (nr t.val)) hw u acc)
          (zInv c nr G f₀ Z (4 * t.val + (nr t.val + 511) / 512 + (u.val + 1))) := by
  have ht : t.val < 8 := Nat.lt_of_lt_of_eq t.isLt trips1
  have hn := hT.le t.val
  have hu : u.val < 4 - (nr t.val + 511) / 512 := Nat.lt_of_lt_of_eq u.isLt (trips2 ⟨nr t.val, by omega⟩)
  set g := 4 * t.val + (nr t.val + 511) / 512 + u.val with hgdef
  have hg : g < 32 := by omega
  have hd : dead nr g := by
    have := dead_tail (nr := nr) (b := t.val) (j := (nr t.val + 511) / 512 + u.val) ht (by omega) (by omega)
    rwa [← Nat.add_assoc] at this
  have hk : Nat.count (dead nr) g < NZ nr := count_lt_count hg hd
  have eoff : k0_off2 t (BitVec.ofNat 32 (nr t.val)) u = ![g / 4, g % 4 * 512, 0] := by
    rw [off2_eq t ⟨nr t.val, by omega⟩ u]
    have e1 : g / 4 = t.val := by omega
    have e2 : g % 4 = (nr t.val + 511) / 512 + u.val := by omega
    rw [e1, e2]
  rw [show 4 * t.val + (nr t.val + 511) / 512 + (u.val + 1) = g + 1 by omega]
  unfold k0_t2_body zInv
  rw [count_pos_step hd, sep_todo _ hk, nth_count hd]
  iintro ⟨%hacc, HB, ⟨HP, Hrest⟩⟩
  unfold zPiece
  icases HP with ⟨HZ, HO⟩
  iapply (start_zero c G f₀ Z (zshare (Nat.count (dead nr) g)) ⟨g, hg⟩ (hG ⟨g, hg⟩ hd) hk
    (D := fun j : Fin (NZ nr) => zDone c nr G Z j.val) (by unfold zDone; rw [nth_count hd]) eoff) $$ [HZ HO HB]
  · isplitl [HZ]; · iexact HZ
    isplitl [HO]; · iexact HO
    iexact HB
  iintro HB
  iapply (wp_done c)
  isplitr
  · ipureintro
    rw [hacc]
    exact BitVec.ofNat_add _ _ |>.symm
  isplitl [HB]; · iexact HB
  iexact Hrest

variable (nr G f₀ Z) in
/-- The table beside the state with the batches below `b` gone over. -/
def zBatchInv (T : TabBuf (F := F) c) (q : PosShare TreeShare) (b : ℕ) (acc : BitVec 32) : sProp 𝕄 :=
  iprop((tabM.view.loc (c : Thread nD τ) ↦{q} T) ∗ zInv c nr G f₀ Z (4 * b) acc)

/-- One batch gone over. -/
theorem zero_batch (hG : ∀ g : Fin 32, dead nr g.val → ∀ x, G (blkAt g (unsq x)) = Z x) {T : TabBuf (F := F) c} (hT : Counts c T nr) (q : PosShare TreeShare)
    (i : grid0.Coords) {h1 h2 h3 h4 h5 h6 h10 h11} (t : Fin k0_t1_loop.trips) (acc : BitVec 32) :
    zBatchInv c nr G f₀ Z T q t.val acc
      ⊢ wp' (k0_t1_body i tabM h1 inM h2 outM h3 inRing h4 outRing h5 zeroM h6 cc0_scratch3 cc0_scratch4 cc0_scratch5 bofM h10 iofM h11 t acc)
          (zBatchInv c nr G f₀ Z T q (t.val + 1)) := by
  have ht : t.val < 8 := Nat.lt_of_lt_of_eq t.isLt trips1
  have hn := hT.le t.val
  unfold k0_t1_body zBatchInv
  iintro ⟨HT, HI⟩
  iapply (load_tab c T q ⟨t.val, ht⟩ (off1_eq t)) $$ HT
  iintro HT
  rw [hT.word ⟨t.val, ht⟩]
  have hw : k0_chk1 t (BitVec.ofNat 32 (nr t.val)) := chk1_of t ⟨nr t.val, by omega⟩
  iapply (wp_cond c hw)
  iapply (wp_loop c (k0_t2_loop (BitVec.ofNat 32 (nr t.val))) (4 - (nr t.val + 511) / 512) (trips2 ⟨nr t.val, by omega⟩)
    (k0_t2_ok t (BitVec.ofNat 32 (nr t.val)) hw) acc _
    (fun u => zInv c nr G f₀ Z (4 * t.val + (nr t.val + 511) / 512 + u)) (zero_step c hG hT i t hw)) $$ [HI]
  · unfold zInv
    rw [Nat.add_zero, count_dead_batch (nr := nr) ht hn]
    iexact HI
  iintro %acc' HI
  iapply (wp_loop_none_last c (k0_t3_loop (BitVec.ofNat 32 (nr t.val))) (trips3 ⟨nr t.val, by omega⟩)
    (k0_t3_ok t (BitVec.ofNat 32 (nr t.val)) hw) acc' _)
  iintro %acc'' %e
  subst e
  isplitl [HT]; · iexact HT
  rw [show 4 * (t.val + 1) = 4 * t.val + (nr t.val + 511) / 512 + (4 - (nr t.val + 511) / 512) by omega]
  iexact HI

end

end Cert.Proof.KernelIdeal
-- ==== Proof.KernelIdeal.Collect.lean ====
/-
  The lists: the loop over all blocks writes the batch and the place in it of each block that holds a live row to the
  two lists, and counts them.
-/
module

public import proofs.«01_k».proof.Proof.KernelIdeal.Zero
public import Idealize.ShloMosaic.Lib.WordCmp

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The words -/

/-- Block `t`'s batch, as the loop computes it; -/
abbrev batchOf (t : Fin k0_t4_loop.trips) : BitVec 32 :=
  Scalar.select
    (Scalar.andi
      (Scalar.cmpi .ne
        (Scalar.subi (Scalar.extui (Scalar.cmpi .sgt (Scf.iv 0#32 1#32 t.val) 0#32)) (Scalar.extui (Scalar.cmpi .slt (Scf.iv 0#32 1#32 t.val) 0#32)))
        (Scalar.subi (Scalar.extui (Scalar.cmpi .sgt 4#32 0#32)) (Scalar.extui (Scalar.cmpi .slt 4#32 0#32))))
      (Scalar.cmpi .ne (Scalar.remsi (Scf.iv 0#32 1#32 t.val) 4#32) 0#32))
    (Scalar.subi (Scalar.divsi (Scf.iv 0#32 1#32 t.val) 4#32) 1#32)
    (Scalar.divsi (Scf.iv 0#32 1#32 t.val) 4#32)

/-- and its place in the batch. -/
abbrev placeOf (t : Fin k0_t4_loop.trips) : BitVec 32 :=
  Scalar.select
    (Scalar.andi
      (Scalar.xori
        (Scalar.cmpi .slt (Scalar.remsi (Scf.iv 0#32 1#32 t.val) (Scalar.select (Scalar.cmpi .eq 4#32 0#32) 1#32 4#32)) 0#32)
        (Scalar.cmpi .slt (Scalar.select (Scalar.cmpi .eq 4#32 0#32) 1#32 4#32) 0#32))
      (Scalar.cmpi .ne (Scalar.remsi (Scf.iv 0#32 1#32 t.val) (Scalar.select (Scalar.cmpi .eq 4#32 0#32) 1#32 4#32)) 0#32))
    (Scalar.addi (Scalar.remsi (Scf.iv 0#32 1#32 t.val) (Scalar.select (Scalar.cmpi .eq 4#32 0#32) 1#32 4#32)) (Scalar.select (Scalar.cmpi .eq 4#32 0#32) 1#32 4#32))
    (Scalar.remsi (Scf.iv 0#32 1#32 t.val) (Scalar.select (Scalar.cmpi .eq 4#32 0#32) 1#32 4#32))

theorem batchOf_eq : ∀ t, batchOf t = BitVec.ofNat 32 (t.val / 4) := by decide +kernel
theorem placeOf_eq : ∀ t, placeOf t = BitVec.ofNat 32 (t.val % 4) := by decide +kernel
theorem rowOf_eq : ∀ t, Scalar.muli (placeOf t) 512#32 = BitVec.ofNat 32 (t.val % 4 * 512) := by decide +kernel

theorem liveWord (t : Fin k0_t4_loop.trips) {n : ℕ} (hn : n ≤ 2048) :
    Scalar.cmpi .slt (Scalar.muli (placeOf t) 512#32) (BitVec.ofNat 32 n) = 1#1 ↔ t.val % 4 * 512 < n := by
  rw [rowOf_eq]
  exact Idealize.ShloMosaic.WordCmp.cmpi_slt_ofNat_eq_one_iff (by omega) (by omega)

theorem deadWord (t : Fin k0_t4_loop.trips) {n : ℕ} (hn : n ≤ 2048) (h : ¬ t.val % 4 * 512 < n) :
    Scalar.cmpi .slt (Scalar.muli (placeOf t) 512#32) (BitVec.ofNat 32 n) = 0#1 := by
  rw [rowOf_eq]
  exact (Idealize.ShloMosaic.WordCmp.cmpi_slt_ofNat_eq_zero_iff (by omega) (by omega)).mpr h

theorem nonzero_iff : ∀ b : BitVec 1, Scalar.cmpi .ne (Scalar.extui b : BitVec 32) 0#32 = 1#1 ↔ b = 1#1 := by decide +kernel

theorem cond1_iff (t : Fin k0_t4_loop.trips) {n : ℕ} (hn : n ≤ 2048) :
    k0_cond1 t (BitVec.ofNat 32 n) = 1#1 ↔ t.val % 4 * 512 < n :=
  (nonzero_iff _).trans (liveWord t hn)

/-! ## The loop -/

variable (c : Dev nD)

local notation "wp'" => wp (M := 𝕄) frame (wpE (defs₀ (F := F)) 𝒱₀ (c : Thread nD τ) none) Set.univ

/-- The first `n` words of the two lists name the live blocks. -/
def Listed (nr : ℕ → ℕ) (n : ℕ) (fb : BofBuf (F := F) c) (fi : IofBuf (F := F) c) : Prop :=
  ∀ j : Fin 33, j.val < n → fb (at33 j) = BitVec.ofNat 32 (nth (live nr) j.val / 4) ∧ fi (at33 j) = BitVec.ofNat 32 (nth (live nr) j.val % 4)

/-- The lists with `n` blocks named. -/
def lists (nr : ℕ → ℕ) (n : ℕ) : sProp 𝕄 :=
  iprop(∃ (fb : BofBuf (F := F) c) (fi : IofBuf (F := F) c), ⌜Listed c nr n fb fi⌝ ∗ (bofM.view.loc (c : Thread nD τ) ↦{fullShare} fb)
    ∗ (iofM.view.loc (c : Thread nD τ) ↦{fullShare} fi))

def listInv (nr : ℕ → ℕ) (T : TabBuf (F := F) c) (q : PosShare TreeShare) (t : ℕ) (acc : BitVec 32) : sProp 𝕄 :=
  iprop(⌜acc = BitVec.ofNat 32 (Nat.count (live nr) t)⌝ ∗ (tabM.view.loc (c : Thread nD τ) ↦{q} T) ∗ lists c nr (Nat.count (live nr) t))

theorem list_step {nr : ℕ → ℕ} {T : TabBuf (F := F) c} (hT : Counts c T nr) (q : PosShare TreeShare)
    (i : grid0.Coords) {h1 h2 h3 h4 h5 h6 h10 h11} (t : Fin k0_t4_loop.trips) (acc : BitVec 32) :
    listInv c nr T q t.val acc
      ⊢ wp' (k0_t4_body i tabM h1 inM h2 outM h3 inRing h4 outRing h5 zeroM h6 cc0_scratch3 cc0_scratch4 cc0_scratch5 bofM h10 iofM h11 t acc)
          (listInv c nr T q (t.val + 1)) := by
  have ht : t.val < 32 := Nat.lt_of_lt_of_eq t.isLt trips4
  have hn := hT.le (t.val / 4)
  have hk : Nat.count (live nr) t.val < 33 := lt_of_le_of_lt (count_le _) (by omega)
  unfold k0_t4_body listInv lists
  iintro ⟨%hacc, HT, %fb, %fi, %hL, Hb, Hi⟩
  subst hacc
  iapply (load_tab c T q ⟨t.val / 4, by omega⟩ (off4_eq t)) $$ HT
  iintro HT
  rw [hT.word ⟨t.val / 4, by omega⟩]
  have hw : k0_chk2 t (BitVec.ofNat 32 (Nat.count (live nr) t.val)) (BitVec.ofNat 32 (nr (t.val / 4))) := chk2_of t ⟨_, hk⟩ _
  iapply (wp_cond c hw)
  have e5 := off5_eq ⟨_, hk⟩
  by_cases hc : t.val % 4 * 512 < nr (t.val / 4)
  · have hl : live nr t.val := ⟨ht, hc⟩
    iapply (wp_then c ((cond1_iff t hn).mpr hc))
    iapply (load_bof c fb ⟨_, hk⟩ e5) $$ Hb
    iintro Hb
    iapply (store_bof c fb ⟨_, hk⟩ (batchOf t) e5) $$ Hb
    iintro %fb' %hb Hb
    iapply (load_iof c fi ⟨_, hk⟩ e5) $$ Hi
    iintro Hi
    iapply (store_iof c fi ⟨_, hk⟩ (placeOf t) e5) $$ Hi
    iintro %fi' %hi Hi
    iapply (wp_done c)
    rw [count_pos_step hl]
    isplitr
    · ipureintro
      exact (congrArg (Scalar.addi _) (congrArg (fun b => Scalar.select b 1#32 0#32) ((liveWord t hn).mpr hc))).trans (BitVec.ofNat_add _ _).symm
    isplitl [HT]; · iexact HT
    iexists fb', fi'
    isplitr
    · ipureintro
      intro j hj
      by_cases e : j = ⟨Nat.count (live nr) t.val, hk⟩
      · subst e
        rw [nth_count hl]
        exact ⟨hb.1.trans (batchOf_eq t), hi.1.trans (placeOf_eq t)⟩
      · rw [hb.2 j e, hi.2 j e]
        have : j.val ≠ Nat.count (live nr) t.val := fun h => e (Fin.ext h)
        exact hL j (by omega)
    isplitl [Hb] <;> iassumption
  · have hl : ¬ live nr t.val := fun h => hc h.2
    iapply (wp_else c fun h => hc ((cond1_iff t hn).mp h))
    iapply (wp_done c)
    rw [count_neg_step hl]
    isplitr
    · ipureintro
      exact (congrArg (Scalar.addi _) (congrArg (fun b => Scalar.select b 1#32 0#32) (deadWord t hn hc))).trans (BitVec.add_zero _)
    isplitl [HT]; · iexact HT
    iexists fb, fi
    isplitr; · ipureintro; exact hL
    isplitl [Hb] <;> iassumption

end Cert.Proof.KernelIdeal
-- ==== Proof.KernelIdeal.RingState.lean ====
/-
  The ring's state: what the kernel holds before the `t`-th live block is computed, and how it moves to the next.
  Block `t + 1` is fetched while block `t` is computed, in the two slots of the input ring in turn; the result of block
  `t` leaves the output ring while blocks `t + 1` and `t + 2` are computed.
-/
module

public import proofs.«01_k».proof.Proof.KernelIdeal.Collect

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

local notation "wp'" => wp (M := 𝕄) frame (wpE (defs₀ (F := F)) 𝒱₀ (c : Thread nD τ) none) Set.univ

variable (nr : ℕ → ℕ)

/-- The number of live blocks, -/
abbrev NL : ℕ := Nat.count (live nr) 32

/-- and the `t`-th of them. -/
def blkOf (t : ℕ) : Fin 32 := ⟨nth (live nr) t % 32, Nat.mod_lt _ (by decide)⟩

variable {nr}

theorem blkOf_val {t : ℕ} (h : t < NL nr) : (blkOf nr t).val = nth (live nr) t :=
  Nat.mod_eq_of_lt (nth_spec h).1

theorem blkOf_live {t : ℕ} (h : t < NL nr) : live nr (blkOf nr t).val := by
  rw [blkOf_val h]; exact (nth_spec h).2.1

theorem listed_at {n : ℕ} {fb : BofBuf (F := F) c} {fi : IofBuf (F := F) c} (hL : Listed c nr n fb fi) {t : ℕ} (h : t < NL nr) (h' : t < n)
    (j : Fin 33) (hj : j.val = t) :
    fb (at33 j) = BitVec.ofNat 32 ((blkOf nr t).val / 4) ∧ fi (at33 j) = BitVec.ofNat 32 ((blkOf nr t).val % 4) := by
  subst hj
  rw [blkOf_val h]
  exact hL j h'

variable (nr)
variable (X : InBuf (F := F) c) (G f₀ : OutBuf (F := F) c)

/-- A live block not yet fetched. -/
def fresh (g : ℕ) : sProp 𝕄 := iprop(inP c X g ∗ outP c f₀ g)

/-- The input slot of block `t`: the block on its way in, if there is one. -/
def inAt (t : ℕ) : sProp 𝕄 :=
  if t < NL nr then iprop(inFlight c X (sl t) (blkOf nr t) ∗ outP c f₀ (nth (live nr) t)) else inFree (F := F) c (sl t)

/-- The output slot of the block `d` before `t`: its result on the way out, if `t` is that far. -/
def outAt (t d : ℕ) : sProp 𝕄 :=
  if d ≤ t then outFlight c G (sl (t - d)) (nth (live nr) (t - d)) else outFree (F := F) c (sl (t + d))

/-- The core's waits. -/
def waits : sProp 𝕄 := iprop(∃ W, owes (c : Thread nD τ) 0 W)

/-- The state before the `t`-th live block is computed. -/
def ringInv (T : TabBuf (F := F) c) (q : PosShare TreeShare) (t : ℕ) : sProp 𝕄 :=
  iprop((tabM.view.loc (c : Thread nD τ) ↦{q} T) ∗ lists c nr (NL nr) ∗ waits (F := F) c
    ∗ bigSep (todo (live nr) (t + 1)) (fresh c X f₀) ∗ inAt c nr X f₀ t ∗ inFree (F := F) c (sl (t + 1))
    ∗ bigSep (done (live nr) t) (inP c X)
    ∗ outAt c nr G t 1 ∗ outAt c nr G t 2 ∗ bigSep (done (live nr) (t - 2)) (outP c G))

variable {nr X G f₀}

theorem sl_congr {a b : ℕ} (h : a % 2 = b % 2) : sl a = sl b := Fin.ext h

theorem inAt_pos {t : ℕ} (h : t < NL nr) :
    inAt c nr X f₀ t = iprop(inFlight c X (sl t) (blkOf nr t) ∗ outP c f₀ (nth (live nr) t)) := if_pos h
theorem inAt_neg {t : ℕ} (h : ¬ t < NL nr) : inAt c nr X f₀ t = inFree (F := F) c (sl t) := if_neg h

theorem outAt_pos {t d : ℕ} (h : d ≤ t) : outAt c nr G t d = outFlight c G (sl (t - d)) (nth (live nr) (t - d)) := if_pos h
theorem outAt_neg {t d : ℕ} (h : ¬ d ≤ t) : outAt c nr G t d = outFree (F := F) c (sl (t + d)) := if_neg h

/-- The block one before `t` is the block two before `t + 1`. -/
theorem outAt_succ (t : ℕ) : outAt c nr G t 1 = outAt c nr G (t + 1) 2 := by
  unfold outAt
  by_cases h : 1 ≤ t
  · rw [if_pos h, if_pos (by omega), show t + 1 - 2 = t - 1 by omega]
  · rw [if_neg h, if_neg (by omega), sl_congr (show (t + 1) % 2 = (t + 1 + 2) % 2 by omega)]

/-- Once block `t`'s result is on its way. -/
theorem outAt_one (t : ℕ) : outAt c nr G (t + 1) 1 = outFlight c G (sl t) (nth (live nr) t) := by
  unfold outAt
  rw [if_pos (by omega), Nat.add_sub_cancel]

/-! ## The steps of a trip -/

/-- The next block's fetch is started, if there is a next block. -/
theorem fetch_next {n : Fin 33} (hn : n.val = NL nr) (t : Fin (k0_t5_loop (BitVec.ofNat 32 n.val)).trips)
    (hw4 : k0_chk4 (BitVec.ofNat 32 n.val)) {α : Type} {k : Prog (TpuEff nD τ sig (Elt F) Λ₀ .tc) α} {Q : α → sProp 𝕄} :
    iprop(lists c nr (NL nr) ∗ bigSep (todo (live nr) (t.val + 1)) (fresh c X f₀) ∗ inFree (F := F) c (sl (t.val + 1)))
      ⊢ iprop((iprop(lists c nr (NL nr) ∗ bigSep (todo (live nr) (t.val + 2)) (fresh c X f₀) ∗ inAt c nr X f₀ (t.val + 1)) -∗ wp' k Q)
        -∗ wp' (if h3 : k0_cond3 (BitVec.ofNat 32 n.val) t = 1#1 then
            smemLoad bofM (Rect.unit (s := S33) (k0_off7 (BitVec.ofNat 32 n.val) t) S1.size (k0_off7_inb (BitVec.ofNat 32 n.val) hw4 t h3)) numel1_S1 rfl >>= fun v94 =>
            smemLoad iofM (Rect.unit (s := S33) (k0_off7 (BitVec.ofNat 32 n.val) t) S1.size (k0_off7_inb (BitVec.ofNat 32 n.val) hw4 t h3)) numel1_S1 rfl >>= fun v96 =>
            Prog.lift (TpuEff.assume (k0_chk5 (BitVec.ofNat 32 n.val) t v94 v96) (k0_chk5.dec (BitVec.ofNat 32 n.val) t v94 v96)) >>= fun hw5 =>
            Prog.lift (TpuEff.enqueueDma
              ((inM.slice (Rect.unit (s := S8x2048x2048) (k0_off10 v94 v96) S1x512x2048.size (k0_off10_inb (BitVec.ofNat 32 n.val) t v94 v96 hw5.down h3)) (fun _ => rfl)).squeeze S512x2048 squeezes_S1x512x2048_S512x2048)
              (.here ((inRing.slice (Rect.unit (s := S2x512x2048) (k0_off9 (BitVec.ofNat 32 n.val) t) S1x512x2048.size (k0_off9_inb (BitVec.ofNat 32 n.val) hw4 t h3)) (fun _ => rfl)).squeeze S512x2048 squeezes_S1x512x2048_S512x2048))
              (.dma ((cc0_scratch3.slice (Rect.unit (s := S2) (k0_off8 (BitVec.ofNat 32 n.val) t) S1.size (k0_off8_inb (BitVec.ofNat 32 n.val) hw4 t h3))).squeeze S_ squeezes_S1_S_).sem)
              ((View.wordExact_bits rfl).reshape _ _) ((View.wordExact_bits rfl).reshape _ _) ⟨Or.inl rfl, trivial⟩) >>= fun _ => k
          else k) Q) := by
  iintro ⟨HL, HT, HF⟩ Hk
  by_cases h : t.val + 1 < n.val
  · iapply (wp_then c ((cond3_iff n t).mpr h))
    replace h : t.val + 1 < NL nr := lt_of_lt_of_eq h hn
    unfold lists
    icases HL with ⟨%fb, %fi, %hL, Hb, Hi⟩
    ihave HT := (Entails.of_eq (sep_todo (fresh c X f₀) h)) $$ HT
    icases HT with ⟨HP, HT⟩
    unfold fresh
    icases HP with ⟨HX, HO⟩
    have hj : t.val + 1 < 33 := by omega
    iapply (load_bof c fb ⟨t.val + 1, hj⟩ (off7_eq n t)) $$ Hb
    iintro Hb
    iapply (load_iof c fi ⟨t.val + 1, hj⟩ (off7_eq n t)) $$ Hi
    iintro Hi
    rw [(listed_at c hL h h ⟨t.val + 1, hj⟩ rfl).1, (listed_at c hL h h ⟨t.val + 1, hj⟩ rfl).2]
    iapply (wp_cond c (chk5_of _ t (blkOf nr (t.val + 1))))
    iapply (start_in c X (blkOf nr (t.val + 1)) (sl (t.val + 1)) (blk_off10 _) (off9_eq n t) (off8_eq n t)) $$ [HX HF]
    · rw [blkOf_val h]
      isplitl [HX] <;> iassumption
    iintro HF
    iapply Hk
    isplitl [Hb Hi]
    · iexists fb, fi
      isplitr; · ipureintro; exact hL
      isplitl [Hb] <;> iassumption
    isplitl [HT]; · iexact HT
    rw [inAt_pos c h]
    isplitl [HF] <;> iassumption
  · iapply (wp_else c fun h' => h ((cond3_iff n t).mp h'))
    replace h : ¬ t.val + 1 < NL nr := fun h' => h (lt_of_lt_of_eq h' hn.symm)
    iapply Hk
    isplitl [HL]; · iexact HL
    rw [inAt_neg c h]
    isplitl [HT]
    · iapply (Entails.of_eq (by rw [todo_all (show NL nr ≤ t.val + 1 by omega), todo_all (show NL nr ≤ t.val + 2 by omega)])) $$ HT
    · iexact HF

/-- The result two blocks before is waited for, if there is one: its slot is free. -/
theorem free_slot {n : Fin 33} (hn : n.val = NL nr) (t : Fin (k0_t5_loop (BitVec.ofNat 32 n.val)).trips)
    (hw4 : k0_chk4 (BitVec.ofNat 32 n.val)) {α : Type} {k : Prog (TpuEff nD τ sig (Elt F) Λ₀ .tc) α} {Q : α → sProp 𝕄} :
    iprop(lists c nr (NL nr) ∗ waits (F := F) c ∗ outAt c nr G t.val 2 ∗ bigSep (done (live nr) (t.val - 2)) (outP c G))
      ⊢ iprop((iprop(lists c nr (NL nr) ∗ waits (F := F) c ∗ outFree (F := F) c (sl t.val) ∗ bigSep (done (live nr) (t.val + 1 - 2)) (outP c G)) -∗ wp' k Q)
        -∗ wp' (if h4 : k0_cond4 (BitVec.ofNat 32 n.val) t = 1#1 then
            smemLoad bofM (Rect.unit (s := S33) (k0_off15 (BitVec.ofNat 32 n.val) t) S1.size (k0_off15_inb (BitVec.ofNat 32 n.val) hw4 t h4)) numel1_S1 rfl >>= fun v93 =>
            smemLoad iofM (Rect.unit (s := S33) (k0_off15 (BitVec.ofNat 32 n.val) t) S1.size (k0_off15_inb (BitVec.ofNat 32 n.val) hw4 t h4)) numel1_S1 rfl >>= fun v95 =>
            Prog.lift (TpuEff.assume (k0_chk7 (BitVec.ofNat 32 n.val) t v93 v95) (k0_chk7.dec (BitVec.ofNat 32 n.val) t v93 v95)) >>= fun hw7 =>
            Prog.lift (TpuEff.waitDma2
              ((cc0_scratch4.slice (Rect.unit (s := S2) (k0_off16 (BitVec.ofNat 32 n.val) t) S1.size (k0_off16_inb (BitVec.ofNat 32 n.val) hw4 t h4))).squeeze S_ squeezes_S1_S_).sem
              ((outRing.slice (Rect.unit (s := S2x512x2048) (k0_off18 (BitVec.ofNat 32 n.val) t) S1x512x2048.size (k0_off18_inb (BitVec.ofNat 32 n.val) hw4 t h4)) (fun _ => rfl)).squeeze S512x2048 squeezes_S1x512x2048_S512x2048)
              ((outM.slice (Rect.unit (s := S8x2048x2048) (k0_off17 v93 v95) S1x512x2048.size (k0_off17_inb (BitVec.ofNat 32 n.val) t v93 v95 hw7.down h4)) (fun _ => rfl)).squeeze S512x2048 squeezes_S1x512x2048_S512x2048)
              ((View.wordExact_bits rfl).reshape _ _) ((View.wordExact_bits rfl).reshape _ _)) >>= fun _ => k
          else k) Q) := by
  have ht : t.val < NL nr := by rw [← hn]; exact Nat.lt_of_lt_of_eq t.isLt (trips5 n)
  iintro ⟨HL, HW, HO, HD⟩ Hk
  by_cases h : 2 ≤ t.val
  · iapply (wp_then c ((cond4_iff n t).mpr h))
    have h2 : t.val - 2 < NL nr := by omega
    unfold lists waits
    icases HL with ⟨%fb, %fi, %hL, Hb, Hi⟩
    icases HW with ⟨%W, HW⟩
    ihave HO := (Entails.of_eq ((outAt_pos c h).trans (by rw [sl_congr (show (t.val - 2) % 2 = t.val % 2 by omega)]))) $$ HO
    have hj : t.val - 2 < 33 := by omega
    iapply (load_bof c fb ⟨t.val - 2, hj⟩ (off15_eq n t h)) $$ Hb
    iintro Hb
    iapply (load_iof c fi ⟨t.val - 2, hj⟩ (off15_eq n t h)) $$ Hi
    iintro Hi
    rw [(listed_at c hL h2 h2 ⟨t.val - 2, hj⟩ rfl).1, (listed_at c hL h2 h2 ⟨t.val - 2, hj⟩ rfl).2]
    iapply (wp_cond c (chk7_of _ t (blkOf nr (t.val - 2))))
    iapply (wait_out c G (nth (live nr) (t.val - 2)) (sl t.val) (off16_eq n t)) $$ [HO HW]
    · isplitl [HO] <;> iassumption
    iintro ⟨⟨HG, HS⟩, HC, HW⟩
    iapply Hk
    isplitl [Hb Hi]
    · iexists fb, fi
      isplitr; · ipureintro; exact hL
      isplitl [Hb] <;> iassumption
    isplitl [HW]; · iexact HW
    isplitl [HC HS]
    · unfold outFree
      isplitl [HC] <;> iassumption
    rw [show t.val + 1 - 2 = t.val - 2 + 1 by omega, sep_done _ h2]
    isplitl [HG] <;> iassumption
  · iapply (wp_else c fun h' => h ((cond4_iff n t).mp h'))
    iapply Hk
    isplitl [HL]; · iexact HL
    isplitl [HW]; · iexact HW
    rw [show t.val + 1 - 2 = t.val - 2 by omega]
    isplitl [HO]
    · iapply (Entails.of_eq ((outAt_neg c h).trans (by rw [sl_congr (show (t.val + 2) % 2 = t.val % 2 by omega)]))) $$ HO
    · iexact HD

end Cert.Proof.KernelIdeal
-- ==== Proof.KernelIdeal.RingLoop.lean ====
/-
  The main loop: one trip computes one live block and moves the ring to the next; the loop after it waits for the last
  two results.
-/
module

public import proofs.«01_k».proof.Proof.KernelIdeal.RingState

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

local notation "wp'" => wp (M := 𝕄) frame (wpE (defs₀ (F := F)) 𝒱₀ (c : Thread nD τ) none) Set.univ

variable {nr : ℕ → ℕ} {X : InBuf (F := F) c} {G f₀ : OutBuf (F := F) c} {T : TabBuf (F := F) c} {q : PosShare TreeShare}

/-- The rows of block `g` that are live, as the kernel computes it. -/
abbrev rowsWord (nr : ℕ → ℕ) (g : Fin 32) : BitVec 32 :=
  Scalar.subi (BitVec.ofNat 32 (nr (g.val / 4))) (Scalar.muli (BitVec.ofNat 32 (g.val % 4)) 512#32)

/-- What the kernel computes of block `g`. -/
def blkOut (nr : ℕ → ℕ) (X : InBuf (F := F) c) (g : Fin 32) : Vec F S1x512x2048 .f32 :=
  k0_pay6 (rowsWord nr g) (k0_pay1 (blkVec c X g)) (k0_pay2 (blkVec c X g))

/-- The state within trip `t`, once block `t` lies in its slot. -/
def midState (nr : ℕ → ℕ) (X : InBuf (F := F) c) (G f₀ : OutBuf (F := F) c) (T : TabBuf (F := F) c) (q : PosShare TreeShare) (t : ℕ) : sProp 𝕄 :=
  iprop((tabM.view.loc (c : Thread nD τ) ↦{q} T) ∗ lists c nr (NL nr) ∗ waits (F := F) c
    ∗ bigSep (todo (live nr) (t + 2)) (fresh c X f₀) ∗ inAt c nr X f₀ (t + 1) ∗ inFree (F := F) c (sl t)
    ∗ bigSep (done (live nr) (t + 1)) (inP c X) ∗ outP c f₀ (nth (live nr) t)
    ∗ outAt c nr G t 1 ∗ outFree (F := F) c (sl t) ∗ bigSep (done (live nr) (t + 1 - 2)) (outP c G))

/-- The first part of a trip: fetch the next block, wait for this one, free its output slot, compute. -/
theorem trip_part {n : Fin 33} (hn : n.val = NL nr) (hT : Counts c T nr) (i : grid0.Coords) {h1 h2 h3 h4 h5 h6 h10 h11}
    (t : Fin (k0_t5_loop (BitVec.ofNat 32 n.val)).trips) (hw4 : k0_chk4 (BitVec.ofNat 32 n.val)) :
    ringInv c nr X G f₀ T q t.val
      ⊢ wp' (k0_part1 i tabM h1 inM h2 outM h3 inRing h4 outRing h5 zeroM h6 cc0_scratch3 cc0_scratch4 cc0_scratch5 bofM h10 iofM h11
          (BitVec.ofNat 32 n.val) hw4 0#32 1#32 t)
          (fun r => iprop(⌜r = ⟨Scf.iv 0#32 1#32 t.val, Scalar.remsi (Scf.iv 0#32 1#32 t.val) 2#32, rowsWord nr (blkOf nr t.val),
              k0_pay1 (blkVec c X (blkOf nr t.val)), k0_pay2 (blkVec c X (blkOf nr t.val))⟩⌝ ∗ midState c nr X G f₀ T q t.val)) := by
  have htn : t.val < n.val := Nat.lt_of_lt_of_eq t.isLt (trips5 n)
  have ht : t.val < NL nr := lt_of_lt_of_eq htn hn
  have hj : t.val < 33 := by omega
  rw [k0_part1_eq_skeleton]
  unfold k0_part1_skel ringInv midState
  iintro ⟨HT, HL, HW, Htodo, Hin, Hfree, Hdone, Ho1, Ho2, Hod⟩
  iapply (fetch_next c hn t hw4) $$ [HL Htodo Hfree]
  · isplitl [HL]; · iexact HL
    isplitl [Htodo] <;> iassumption
  iintro ⟨HL, Htodo, Hnext⟩
  unfold lists
  icases HL with ⟨%fb, %fi, %hL, Hb, Hi⟩
  have w := listed_at c hL ht ht ⟨t.val, hj⟩ rfl
  iapply (load_bof c fb ⟨t.val, hj⟩ (off11_eq n t)) $$ Hb
  iintro Hb
  iapply (load_iof c fi ⟨t.val, hj⟩ (off11_eq n t)) $$ Hi
  iintro Hi
  rw [w.1, w.2]
  iapply (wp_cond c (chk6_of (blkOf nr t.val)))
  ihave Hin := (Entails.of_eq (inAt_pos c ht)) $$ Hin
  icases Hin with ⟨Hin, Hout⟩
  unfold waits
  icases HW with ⟨%W, HW⟩
  iapply (wait_in c X (blkOf nr t.val) (sl t.val) (off12_eq n t)) $$ [Hin HW]
  · isplitl [Hin] <;> iassumption
  iintro ⟨⟨Hslot, Hx⟩, Hc, HW⟩
  iapply (free_slot c (G := G) hn t hw4) $$ [Hb Hi HW Ho2 Hod]
  · isplitl [Hb Hi]
    · unfold lists
      iexists fb, fi
      isplitr; · ipureintro; exact hL
      isplitl [Hb] <;> iassumption
    isplitl [HW]; · unfold waits; iexact HW
    isplitl [Ho2] <;> iassumption
  iintro ⟨HL, HW, Ho2, Hod⟩
  unfold lists
  icases HL with ⟨%fb', %fi', %hL', Hb, Hi⟩
  have w' := listed_at c hL' ht ht ⟨t.val, hj⟩ rfl
  iapply (load_bof c fb' ⟨t.val, hj⟩ (off19_eq n t)) $$ Hb
  iintro Hb
  rw [w'.1]
  iapply (wp_cond c (chk8_of (blkOf nr t.val)))
  have hb : (blkOf nr t.val).val / 4 < 8 := by omega
  iapply (load_tab c T q ⟨(blkOf nr t.val).val / 4, hb⟩ (blk_off20 _)) $$ HT
  iintro HT
  rw [hT.word ⟨(blkOf nr t.val).val / 4, hb⟩]
  iapply (load_iof c fi' ⟨t.val, hj⟩ (off21_eq n t)) $$ Hi
  iintro Hi
  rw [w'.2]
  iapply (load_slot c (sl t.val) (blkVec c X (blkOf nr t.val)) (off22_eq n t)) $$ Hslot
  iintro Hslot
  iapply (wp_done c)
  isplitr; · ipureintro; rfl
  isplitl [HT]; · iexact HT
  isplitl [Hb Hi]
  · iexists fb', fi'
    isplitr; · ipureintro; exact hL'
    isplitl [Hb] <;> iassumption
  isplitl [HW]; · unfold waits; iexact HW
  isplitl [Htodo]; · iexact Htodo
  isplitl [Hnext]; · iexact Hnext
  isplitl [Hc Hslot]
  · unfold inFree inSlot inSlotAt
    icases Hslot with ⟨%f, -, Hslot⟩
    isplitl [Hc]; · iexact Hc
    iexists f
    iexact Hslot
  isplitl [Hdone Hx]
  · rw [sep_done _ ht, ← blkOf_val ht]
    isplitl [Hx] <;> iassumption
  isplitl [Hout]; · iexact Hout
  isplitl [Ho1]; · iexact Ho1
  isplitl [Ho2]; · iexact Ho2
  iexact Hod

/-- One trip. -/
theorem trip {n : Fin 33} (hn : n.val = NL nr) (hT : Counts c T nr)
    (hG : ∀ g : Fin 32, live nr g.val → ∀ y, G (blkAt g y) = blkOut c nr X g y)
    (i : grid0.Coords) {h1 h2 h3 h4 h5 h6 h10 h11}
    (t : Fin (k0_t5_loop (BitVec.ofNat 32 n.val)).trips) (hw4 : k0_chk4 (BitVec.ofNat 32 n.val)) (acc : Unit) :
    ringInv c nr X G f₀ T q t.val
      ⊢ wp' (k0_t5_body i tabM h1 inM h2 outM h3 inRing h4 outRing h5 zeroM h6 cc0_scratch3 cc0_scratch4 cc0_scratch5 bofM h10 iofM h11
          (BitVec.ofNat 32 n.val) hw4 t acc)
          (fun _ => ringInv c nr X G f₀ T q (t.val + 1)) := by
  have htn : t.val < n.val := Nat.lt_of_lt_of_eq t.isLt (trips5 n)
  have ht : t.val < NL nr := lt_of_lt_of_eq htn hn
  have hj : t.val < 33 := by omega
  unfold k0_t5_body
  rw [wp_bind]
  iintro H
  iapply (wp_wand_r Idealize.ShloMosaic.frame (wpE (defs₀ (F := F)) 𝒱₀ (c : Thread nD τ) none) Set.univ)
  isplitl [H]
  · iapply (trip_part c hn hT i t hw4); iexact H
  iintro %r ⟨%hr, H⟩
  subst hr
  unfold midState ringInv
  icases H with ⟨HT, HL, HW, Htodo, Hnext, Hfree, Hdone, Hout, Ho1, Ho2, Hod⟩
  unfold outFree
  icases Ho2 with ⟨Hc, Hs⟩
  iapply (peek_slot c (sl t.val) (off22_eq n t)) $$ Hs
  iintro Hs
  iapply (store_slot c (sl t.val) (blkOut c nr X (blkOf nr t.val)) (off22_eq n t)) $$ Hs
  iintro Hs
  unfold lists
  icases HL with ⟨%fb, %fi, %hL, Hb, Hi⟩
  have w := listed_at c hL ht ht ⟨t.val, hj⟩ rfl
  iapply (load_bof c fb ⟨t.val, hj⟩ (off21_eq n t)) $$ Hb
  iintro Hb
  iapply (load_iof c fi ⟨t.val, hj⟩ (off21_eq n t)) $$ Hi
  iintro Hi
  rw [w.1, w.2]
  iapply (wp_cond c (chk9_of (blkOf nr t.val)))
  iapply (start_out c G f₀ (blkOut c nr X (blkOf nr t.val)) (blkOf nr t.val) (sl t.val) (hG _ (blkOf_live ht))
    (blk_off24 _) (off25_eq n t) (off23_eq n t)) $$ [Hs Hout Hc]
  · isplitl [Hs]; · iexact Hs
    rw [blkOf_val ht]
    isplitl [Hout] <;> iassumption
  iintro Hfl
  iapply (wp_done c)
  isplitl [HT]; · iexact HT
  isplitl [Hb Hi]
  · iexists fb, fi
    isplitr; · ipureintro; exact hL
    isplitl [Hb] <;> iassumption
  isplitl [HW]; · iexact HW
  isplitl [Htodo]; · iexact Htodo
  isplitl [Hnext]; · iexact Hnext
  isplitl [Hfree]
  · rw [sl_congr (show (t.val + 1 + 1) % 2 = t.val % 2 by omega)]
    iexact Hfree
  isplitl [Hdone]; · iexact Hdone
  isplitl [Hfl]
  · rw [outAt_one, ← blkOf_val ht]
    iexact Hfl
  isplitl [Ho1]
  · rw [← outAt_succ]
    iexact Ho1
  iexact Hod

end Cert.Proof.KernelIdeal
-- ==== Proof.KernelIdeal.Drain.lean ====
/-
  The waits at the end: the last two results leave the output ring, and every copy of the zero block is waited for.
-/
module

public import proofs.«01_k».proof.Proof.KernelIdeal.RingLoop

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

local notation "wp'" => wp (M := 𝕄) frame (wpE (defs₀ (F := F)) 𝒱₀ (c : Thread nD τ) none) Set.univ

/-! ## The last two results -/

section
variable (nr : ℕ → ℕ) (G : OutBuf (F := F) c)

/-- The output slot of the block `d` before the end, with the results below `j` waited for. -/
def pend (j d : ℕ) : sProp 𝕄 :=
  if j + d ≤ NL nr then outFlight c G (sl (NL nr - d)) (nth (live nr) (NL nr - d)) else outFree (F := F) c (sl (NL nr + d))

/-- The state with the results below `j` waited for. -/
def drainInv (j : ℕ) : sProp 𝕄 :=
  iprop(lists c nr (NL nr) ∗ waits (F := F) c ∗ pend c nr G j 1 ∗ pend c nr G j 2 ∗ bigSep (done (live nr) j) (outP c G))

variable {nr G}

theorem pend_pos {j d : ℕ} (h : j + d ≤ NL nr) : pend c nr G j d = outFlight c G (sl (NL nr - d)) (nth (live nr) (NL nr - d)) := if_pos h
theorem pend_neg {j d : ℕ} (h : ¬ j + d ≤ NL nr) : pend c nr G j d = outFree (F := F) c (sl (NL nr + d)) := if_neg h

/-- Before any is. -/
theorem pend_first {d : ℕ} (h0 : 0 < d) (h2 : d ≤ 2) : outAt c nr G (NL nr) d = pend c nr G (NL nr - 2) d := by
  unfold outAt pend
  by_cases h : d ≤ NL nr
  · rw [if_pos h, if_pos (by omega)]
  · rw [if_neg h, if_neg (by omega)]

/-- Waiting for a result. -/
theorem drain_step {n : Fin 33} (hn : n.val = NL nr) (i : grid0.Coords) {h1 h2 h3 h4 h5 h6 h10 h11}
    (t : Fin (k0_t7_loop (BitVec.ofNat 32 n.val)).trips) (hw4 : k0_chk4 (BitVec.ofNat 32 n.val)) (acc : Unit) :
    drainInv c nr G (n.val - 2 + t.val)
      ⊢ wp' (k0_t7_body i tabM h1 inM h2 outM h3 inRing h4 outRing h5 zeroM h6 cc0_scratch3 cc0_scratch4 cc0_scratch5 bofM h10 iofM h11
          (BitVec.ofNat 32 n.val) hw4 t acc)
          (fun _ => drainInv c nr G (n.val - 2 + (t.val + 1))) := by
  have ht : t.val < n.val - (n.val - 2) := Nat.lt_of_lt_of_eq t.isLt (trips7 n)
  have e45 := off45_eq n t
  have e46 := off46_eq n t
  rw [← Nat.add_assoc]
  set j := n.val - 2 + t.val with hjdef
  have hjn : j < NL nr := by omega
  have hj : j < 33 := by omega
  unfold k0_t7_body drainInv lists waits
  iintro ⟨⟨%fb, %fi, %hL, Hb, Hi⟩, ⟨%W, HW⟩, H1, H2, HD⟩
  have w := listed_at c hL hjn hjn ⟨j, hj⟩ rfl
  iapply (load_bof c fb ⟨j, hj⟩ e45) $$ Hb
  iintro Hb
  iapply (load_iof c fi ⟨j, hj⟩ e45) $$ Hi
  iintro Hi
  rw [w.1, w.2]
  iapply (wp_cond c (chk15_of (blkOf nr j)))
  by_cases h : j + 2 ≤ NL nr
  · ihave H2 := (Entails.of_eq ((pend_pos c h).trans (by rw [show NL nr - 2 = j by omega]))) $$ H2
    iapply (wait_out c G (nth (live nr) j) (sl j) e46) $$ [H2 HW]
    · isplitl [H2] <;> iassumption
    iintro ⟨⟨HG, HS⟩, HC, HW⟩
    iapply (wp_done c)
    isplitl [Hb Hi]
    · iexists fb, fi
      isplitr; · ipureintro; exact hL
      isplitl [Hb] <;> iassumption
    isplitl [HW]; · iexact HW
    isplitl [H1]
    · rw [pend_pos c (show j + 1 + 1 ≤ NL nr by omega)]
      iapply (Entails.of_eq (pend_pos c (show j + 1 ≤ NL nr by omega))) $$ H1
    isplitl [HC HS]
    · rw [pend_neg c (show ¬ j + 1 + 2 ≤ NL nr by omega), sl_congr (show (NL nr + 2) % 2 = j % 2 by omega)]
      unfold outFree
      isplitl [HC] <;> iassumption
    rw [sep_done _ hjn]
    isplitl [HG] <;> iassumption
  · ihave H1 := (Entails.of_eq ((pend_pos c (show j + 1 ≤ NL nr by omega)).trans (by rw [show NL nr - 1 = j by omega]))) $$ H1
    iapply (wait_out c G (nth (live nr) j) (sl j) e46) $$ [H1 HW]
    · isplitl [H1] <;> iassumption
    iintro ⟨⟨HG, HS⟩, HC, HW⟩
    iapply (wp_done c)
    isplitl [Hb Hi]
    · iexists fb, fi
      isplitr; · ipureintro; exact hL
      isplitl [Hb] <;> iassumption
    isplitl [HW]; · iexact HW
    isplitl [HC HS]
    · rw [pend_neg c (show ¬ j + 1 + 1 ≤ NL nr by omega), sl_congr (show (NL nr + 1) % 2 = j % 2 by omega)]
      unfold outFree
      isplitl [HC] <;> iassumption
    isplitl [H2]
    · rw [pend_neg c (show ¬ j + 1 + 2 ≤ NL nr by omega)]
      iapply (Entails.of_eq (pend_neg c h)) $$ H2
    rw [sep_done _ hjn]
    isplitl [HG] <;> iassumption

end

/-! ## The copies of the zero block -/

section
variable (nr : ℕ → ℕ) (G : OutBuf (F := F) c) (Z : ZeroBuf (F := F) c)

/-- Every copy of the zero block has arrived. -/
def zAll : sProp 𝕄 :=
  iprop(bigSep Finset.univ (fun j : Fin (NZ nr) => zDone c nr G Z j.val) ∗ semVal ((c : Thread nD τ), zeroCell) 0)

/-- The state with `u` of them waited for. -/
def zWaitInv (u : ℕ) : sProp 𝕄 :=
  iprop((if u < NZ nr then zBatch c nr G Z (NZ nr) (NB * u) else zAll c nr G Z) ∗ waits (F := F) c)

variable {nr G Z}

theorem zWaitInv_lt {u : ℕ} (h : u < NZ nr) : zWaitInv c nr G Z u = iprop(zBatch c nr G Z (NZ nr) (NB * u) ∗ waits (F := F) c) := by
  unfold zWaitInv; rw [if_pos h]
theorem zWaitInv_all {u : ℕ} (h : ¬ u < NZ nr) : zWaitInv c nr G Z u = iprop(zAll c nr G Z ∗ waits (F := F) c) := by
  unfold zWaitInv; rw [if_neg h]

/-- Before any is, -/
theorem zWait_first : iprop(zBatch c nr G Z (NZ nr) 0 ∗ waits (F := F) c) ⊢ |={Set.univ}=> zWaitInv c nr G Z 0 := by
  by_cases h : 0 < NZ nr
  · rw [zWaitInv_lt c h, Nat.mul_zero]
    iintro H
    imodintro
    iexact H
  · have h0 : NZ nr = 0 := by omega
    rw [zWaitInv_all c h]
    iintro ⟨HB, HW⟩
    ihave HB := (Entails.of_eq (show zBatch c nr G Z (NZ nr) 0 = zBatch c nr G Z (NZ nr) (NB * NZ nr) by rw [h0, Nat.mul_zero])) $$ HB
    imod (Transfers.batch_collect' (EC (F := F)) (c : Thread nD τ) NB_pos) $$ HB with ⟨HD, Hc⟩
    imodintro
    unfold zAll
    isplitl [HD Hc]
    · isplitl [HD] <;> iassumption
    iexact HW

/-- and waiting for one. -/
theorem zero_wait {n : Fin 33} (hn : n.val = NZ nr) (i : grid0.Coords) {h1 h2 h3 h4 h5 h6 h10 h11}
    (t : Fin (k0_t9_loop (BitVec.ofNat 32 n.val)).trips) (hw : k0_chk17 (BitVec.ofNat 32 n.val)) (acc : Unit) :
    zWaitInv c nr G Z t.val
      ⊢ wp' (k0_t9_body i tabM h1 inM h2 outM h3 inRing h4 outRing h5 zeroM h6 cc0_scratch3 cc0_scratch4 cc0_scratch5 bofM h10 iofM h11
          (BitVec.ofNat 32 n.val) hw t acc)
          (fun _ => zWaitInv c nr G Z (t.val + 1)) := by
  have ht : t.val < n.val := Nat.lt_of_lt_of_eq t.isLt (trips9 n)
  replace ht : t.val < NZ nr := lt_of_lt_of_eq ht hn
  rw [zWaitInv_lt c ht]
  have hN : ((outM.slice (Rect.unit (s := S8x2048x2048) ![0, 0, 0] S1x512x2048.size inb_S8x2048x2048_S1x512x2048_0_0_0) (fun _ => rfl)).squeeze
    S512x2048 squeezes_S1x512x2048_S512x2048).view.dmaCredit = NB := rfl
  unfold k0_t9_body waits
  iintro ⟨HB, %W, HW⟩
  by_cases h : t.val + 1 < NZ nr
  · rw [zWaitInv_lt c h]
    have hu : NB * t.val + NB < NB * NZ nr := by
      rw [← Nat.mul_succ]; exact Nat.mul_lt_mul_of_pos_left h NB_pos
    iapply (Transfers.wp_waitBatch (EC (F := F)) 𝒱₀ (defs := defs₀ (F := F)) (c : Thread nD τ) none () hN hu) $$ [HB HW]
    · isplitl [HB] <;> iassumption
    iintro ⟨HB, HW⟩
    iapply (wp_done c)
    rw [Nat.mul_succ]
    unfold waits
    isplitl [HB]; · iexact HB
    iexists _
    iexact HW
  · rw [zWaitInv_all c h]
    have hu : NB * t.val + NB = NB * NZ nr := by
      rw [← Nat.mul_succ, show t.val.succ = NZ nr by omega]
    iapply (Transfers.wp_waitBatchLast (EC (F := F)) 𝒱₀ (defs := defs₀ (F := F)) (c : Thread nD τ) none () hN NB_pos hu) $$ [HB HW]
    · isplitl [HB] <;> iassumption
    iintro ⟨HD, Hc, HW⟩
    iapply (wp_done c)
    unfold zAll waits
    isplitl [HD Hc]
    · isplitl [HD] <;> iassumption
    iexists _
    iexact HW

end

end Cert.Proof.KernelIdeal
-- ==== Proof.KernelIdeal.ZeroAll.lean ====
/-
  The zero block: written once, then lent in shares to the copies that clear the dead blocks, and taken back.
-/
module

public import proofs.«01_k».proof.Proof.KernelIdeal.Drain

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

local notation "wp'" => wp (M := 𝕄) frame (wpE (defs₀ (F := F)) 𝒱₀ (c : Thread nD τ) none) Set.univ

/-! ## The zero block -/

/-- What the zero block holds once written. -/
def zeroBlk : ZeroBuf (F := F) c := fun x => k0_pay5 (F := F) x

abbrev zeroR : Rect S512x2048 := Rect.unit (s := S512x2048) ![0, 0] S512x2048.size inb_S512x2048_S512x2048_0_0

theorem zeroR_emb (y : zeroR.shape.Idx) : zeroR.emb y = y := by
  funext a
  apply Fin.ext
  rw [ValueKit.rect_emb_unit_val]
  fin_cases a
  · exact Nat.zero_add _
  · exact Nat.zero_add _

section
variable {α : Type}

theorem peek_zero (f : ZeroBuf (F := F) c) {hl} {k : Prog (TpuEff nD τ sig (Elt F) Λ₀ .tc) α} {Q : α → sProp 𝕄} :
    (zeroM.view.loc (c : Thread nD τ) ↦{fullShare} f : sProp 𝕄)
      ⊢ iprop(((zeroM.view.loc (c : Thread nD τ) ↦{fullShare} f) -∗ wp' k Q)
        -∗ wp' (Prog.lift (TpuEff.load zeroM zeroR.toLoadRect hl) >>= fun _ => k) Q) := by
  iintro Hs Hk
  iapply (wp_load_rect 𝒱₀ (defs := defs₀ (F := F)) (c : Thread nD τ) none Set.univ (Q := Q) (m := zeroM) (r := zeroR)
    (S := Finset.univ) (f := f) (Finset.subset_univ _)) $$ Hs
  iintro Hs
  iapply Hk
  iexact Hs

theorem store_zero (f : ZeroBuf (F := F) c) {hx hm} {k : PUnit → Prog (TpuEff nD τ sig (Elt F) Λ₀ .tc) α} {Q : α → sProp 𝕄} :
    (zeroM.view.loc (c : Thread nD τ) ↦{fullShare} f : sProp 𝕄)
      ⊢ iprop(((zeroM.view.loc (c : Thread nD τ) ↦{fullShare} zeroBlk (F := F) c) -∗ wp' (k ⟨⟩) Q)
        -∗ wp' (Prog.lift (TpuEff.store zeroM zeroR (k0_pay5 (F := F)) Finset.univ hx hm) >>= k) Q) := by
  iintro Hs Hk
  iapply (wp_store 𝒱₀ (defs := defs₀ (F := F)) (c : Thread nD τ) none Set.univ (Q := Q) (m := zeroM) (r := zeroR)
    (Mk := Finset.univ) (S := Finset.univ) (f := f) (Finset.subset_univ _)) $$ Hs
  iintro Hs
  iapply Hk
  iapply (Entails.of_eq (pointsTo_congr fun i _ => ?_)) $$ Hs
  have e := View.write_emb_of_mem (v := zeroM.access zeroR) (Val := Elt F) f (k0_pay5 (F := F)) (Finset.mem_univ i)
  exact (congrArg _ (zeroR_emb i).symm).trans e

end

/-! ## The copies of the zero block, all together -/

section
variable {nr : ℕ → ℕ} {Z : ZeroBuf (F := F) c}

/-- The shares of the zero block, numbered by the blocks they are copied over. -/
theorem shares_by_block : bigSep (Finset.range (NZ nr)) (fun j => zeroP c Z (zshare j))
    = bigSep (every (dead nr)) (fun g => zeroP c Z (zshare (Nat.count (dead nr) g))) := by
  rw [← done_all (p := dead nr) le_rfl, ← sep_numbers (p := dead nr) _ (NZ nr) le_rfl]
  refine bigSep_congr fun j hj => ?_
  rw [(nth_spec (Finset.mem_range.mp hj)).2.2]

/-- The pieces the copies take, -/
theorem zero_pieces (f₀ : OutBuf (F := F) c) :
    iprop((zeroM.view.loc (c : Thread nD τ) ↦{fullShare} Z) ∗ bigSep (every (dead nr)) (outP c f₀))
      ⊢ iprop(zeroP c Z (Transfers.shareDrop fullShare (NZ nr)) ∗ bigSep (todo (dead nr) 0) (zPiece c nr f₀ Z)) := by
  have e : (bigSep (todo (dead nr) 0) (zPiece c nr f₀ Z) : sProp 𝕄)
      = iprop(bigSep (every (dead nr)) (fun g => zeroP c Z (zshare (Nat.count (dead nr) g))) ∗ bigSep (every (dead nr)) (outP c f₀)) := by
    rw [todo_zero, ← bigSep_sep']
    rfl
  rw [e, ← shares_by_block]
  unfold zeroP
  iintro ⟨HZ, HO⟩
  ihave HZ := (Transfers.pointsTo_toks_range fullShare (NZ nr)).1 $$ HZ
  icases HZ with ⟨HD, HT⟩
  isplitl [HD]; · iexact HD
  isplitl [HT]; · iexact HT
  iexact HO

/-- and what they leave. -/
theorem zero_done (G : OutBuf (F := F) c) :
    iprop(zeroP c Z (Transfers.shareDrop fullShare (NZ nr)) ∗ zAll c nr G Z)
      ⊢ iprop((zeroM.view.loc (c : Thread nD τ) ↦{fullShare} Z) ∗ bigSep (every (dead nr)) (outP c G)
        ∗ semVal ((c : Thread nD τ), zeroCell) 0) := by
  have e : (bigSep Finset.univ (fun j : Fin (NZ nr) => zDone c nr G Z j.val) : sProp 𝕄)
      = iprop(bigSep (every (dead nr)) (outP c G) ∗ bigSep (Finset.range (NZ nr)) (fun j => zeroP c Z (zshare j))) := by
    rw [Ring.bigSep_fin_eq_range (NZ nr) _ (zDone c nr G Z) fun _ _ => rfl, ← done_all (p := dead nr) le_rfl,
      ← sep_numbers (p := dead nr) _ (NZ nr) le_rfl, ← bigSep_sep']
    rfl
  unfold zAll
  rw [e]
  unfold zeroP
  iintro ⟨HD, ⟨HO, HT⟩, Hc⟩
  isplitl [HD HT]
  · iapply (Transfers.pointsTo_toks_range fullShare (NZ nr)).2
    isplitl [HD] <;> iassumption
  isplitl [HO] <;> iassumption

end

end Cert.Proof.KernelIdeal
-- ==== Proof.KernelIdeal.Body.lean ====
/-
  The kernel, from its arrays and cells at rest to them at rest again, the result's blocks written.
-/
module

public import proofs.«01_k».proof.Proof.KernelIdeal.ZeroAll

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

local notation "wp'" => wp (M := 𝕄) frame (wpE (defs₀ (F := F)) 𝒱₀ (c : Thread nD τ) none) Set.univ

/-- The two lists at anything. -/
def anyLists : sProp 𝕄 :=
  iprop(∃ (fb : BofBuf (F := F) c) (fi : IofBuf (F := F) c), (bofM.view.loc (c : Thread nD τ) ↦{fullShare} fb)
    ∗ (iofM.view.loc (c : Thread nD τ) ↦{fullShare} fi))

/-- Both slots of each ring with no copy in flight. -/
def rings : sProp 𝕄 :=
  iprop(inFree (F := F) c 0 ∗ inFree (F := F) c 1 ∗ outFree (F := F) c 0 ∗ outFree (F := F) c 1)

/-- Everything at rest, the result's blocks at `f`. -/
def atRest (X : InBuf (F := F) c) (f : OutBuf (F := F) c) (T : TabBuf (F := F) c) (q : PosShare TreeShare) : sProp 𝕄 :=
  iprop((tabM.view.loc (c : Thread nD τ) ↦{q} T) ∗ (∃ z : ZeroBuf (F := F) c, zeroM.view.loc (c : Thread nD τ) ↦{fullShare} z)
    ∗ anyLists (F := F) c ∗ waits (F := F) c ∗ bigSep (Finset.range 32) (inP c X) ∗ bigSep (Finset.range 32) (outP c f)
    ∗ rings (F := F) c ∗ semVal ((c : Thread nD τ), zeroCell) 0)

/-- The two slots, by the parity of any block's number. -/
theorem both_slots (Φ : Fin 2 → sProp 𝕄) (k : ℕ) : iprop(Φ (sl k) ∗ Φ (sl (k + 1))) ⊢ iprop(Φ 0 ∗ Φ 1) := by
  rcases Nat.mod_two_eq_zero_or_one k with h | h
  · rw [show sl k = 0 from Fin.ext h, show sl (k + 1) = 1 from Fin.ext (by show (k + 1) % 2 = 1; omega)]
  · rw [show sl k = 1 from Fin.ext h, show sl (k + 1) = 0 from Fin.ext (by show (k + 1) % 2 = 0; omega)]
    iintro ⟨H1, H0⟩
    isplitl [H0] <;> iassumption

variable {nr : ℕ → ℕ} {X : InBuf (F := F) c} {G f₀ : OutBuf (F := F) c} {T : TabBuf (F := F) c} {q : PosShare TreeShare}

/-- The first block's fetch is started, if there is a block. -/
theorem fetch_first {n : Fin 33} (hn : n.val = NL nr) {α : Type} {k : Prog (TpuEff nD τ sig (Elt F) Λ₀ .tc) α} {Q : α → sProp 𝕄} :
    iprop(lists c nr (NL nr) ∗ bigSep (todo (live nr) 0) (fresh c X f₀) ∗ inFree (F := F) c (sl 0))
      ⊢ iprop((iprop(lists c nr (NL nr) ∗ bigSep (todo (live nr) 1) (fresh c X f₀) ∗ inAt c nr X f₀ 0) -∗ wp' k Q)
        -∗ wp' (if h2 : k0_cond2 (BitVec.ofNat 32 n.val) = 1#1 then
            smemLoad bofM (Rect.unit (s := S33) ![0] S1.size inb_S33_S1_0) numel1_S1 rfl >>= fun v28 =>
            smemLoad iofM (Rect.unit (s := S33) ![0] S1.size inb_S33_S1_0) numel1_S1 rfl >>= fun v29 =>
            Prog.lift (TpuEff.assume (k0_chk3 (BitVec.ofNat 32 n.val) v28 v29) (k0_chk3.dec (BitVec.ofNat 32 n.val) v28 v29)) >>= fun hw3 =>
            Prog.lift (TpuEff.enqueueDma
              ((inM.slice (Rect.unit (s := S8x2048x2048) (k0_off6 v28 v29) S1x512x2048.size (k0_off6_inb (BitVec.ofNat 32 n.val) v28 v29 hw3.down h2)) (fun _ => rfl)).squeeze S512x2048 squeezes_S1x512x2048_S512x2048)
              (.here ((inRing.slice (Rect.unit (s := S2x512x2048) ![0, 0, 0] S1x512x2048.size inb_S2x512x2048_S1x512x2048_0_0_0) (fun _ => rfl)).squeeze S512x2048 squeezes_S1x512x2048_S512x2048))
              (.dma ((cc0_scratch3.slice (Rect.unit (s := S2) ![0] S1.size inb_S2_S1_0)).squeeze S_ squeezes_S1_S_).sem)
              ((View.wordExact_bits rfl).reshape _ _) ((View.wordExact_bits rfl).reshape _ _) ⟨Or.inl rfl, trivial⟩) >>= fun _ => k
          else k) Q) := by
  iintro ⟨HL, HT, HF⟩ Hk
  by_cases h : 0 < n.val
  · iapply (wp_then c ((cond2_iff n).mpr h))
    replace h : 0 < NL nr := lt_of_lt_of_eq h hn
    unfold lists
    icases HL with ⟨%fb, %fi, %hL, Hb, Hi⟩
    ihave HT := (Entails.of_eq (sep_todo (fresh c X f₀) h)) $$ HT
    icases HT with ⟨HP, HT⟩
    unfold fresh
    icases HP with ⟨HX, HO⟩
    have e1 : (![0] : Fin 1 → ℕ) = ![(0 : Fin 33).val] := rfl
    have w := listed_at c hL h h 0 rfl
    iapply (load_bof c fb 0 e1) $$ Hb
    iintro Hb
    iapply (load_iof c fi 0 e1) $$ Hi
    iintro Hi
    rw [w.1, w.2]
    iapply (wp_cond c (chk3_of _ (blkOf nr 0)))
    have e2 : (![0, 0, 0] : Fin 3 → ℕ) = ![(sl 0).val, 0, 0] := rfl
    have e3 : (![0] : Fin 1 → ℕ) = ![(sl 0).val] := rfl
    iapply (start_in c X (blkOf nr 0) (sl 0) (blk_off6 _) e2 e3) $$ [HX HF]
    · rw [blkOf_val h]
      isplitl [HX] <;> iassumption
    iintro HF
    iapply Hk
    isplitl [Hb Hi]
    · iexists fb, fi
      isplitr; · ipureintro; exact hL
      isplitl [Hb] <;> iassumption
    isplitl [HT]; · iexact HT
    rw [inAt_pos c h]
    isplitl [HF] <;> iassumption
  · iapply (wp_else c fun h' => h ((cond2_iff n).mp h'))
    replace h : ¬ 0 < NL nr := fun h' => h (lt_of_lt_of_eq h' hn.symm)
    iapply Hk
    isplitl [HL]; · iexact HL
    rw [inAt_neg c h]
    isplitl [HT]
    · iapply (Entails.of_eq (by rw [todo_all (show NL nr ≤ 0 by omega), todo_all (show NL nr ≤ 1 by omega)])) $$ HT
    · iexact HF

instance (Z : ZeroBuf (F := F) c) (j : ℕ) : Storable (upEmb : UEmb _ 𝕄) (zDone c nr G Z j) := by
  unfold zDone outP zeroP
  infer_instance

/-- The state once every block is computed and the copies of the zero block are all started. -/
def computed (nr : ℕ → ℕ) (X : InBuf (F := F) c) (G : OutBuf (F := F) c) (T : TabBuf (F := F) c) (q : PosShare TreeShare) : sProp 𝕄 :=
  iprop((tabM.view.loc (c : Thread nD τ) ↦{q} T) ∗ zeroP c (zeroBlk c) (Transfers.shareDrop fullShare (NZ nr))
    ∗ anyLists (F := F) c ∗ waits (F := F) c ∗ bigSep (Finset.range 32) (inP c X) ∗ bigSep (every (live nr)) (outP c G)
    ∗ rings (F := F) c ∗ zBatch c nr G (zeroBlk c) (NZ nr) 0)

/-- The kernel up to there. -/
theorem compute (hT : Counts c T nr) (hG : ∀ g : Fin 32, live nr g.val → ∀ y, G (blkAt g y) = blkOut c nr X g y)
    (hZ : ∀ g : Fin 32, dead nr g.val → ∀ x, G (blkAt g (unsq x)) = zeroBlk (F := F) c x) (i : grid0.Coords) {h1 h2 h3 h4 h5 h6 h10 h11} :
    atRest c X f₀ T q
      ⊢ wp' (k0_part3 i tabM h1 inM h2 outM h3 inRing h4 outRing h5 zeroM h6 cc0_scratch3 cc0_scratch4 cc0_scratch5 bofM h10 iofM h11)
          (fun r => iprop(⌜r = ⟨BitVec.ofNat 32 (NZ nr), chk17_of ⟨NZ nr, count_lt_33 _⟩, 0#32⟩⌝ ∗ computed c nr X G T q)) := by
  rw [k0_part3_eq_skeleton]
  unfold k0_part3_skel atRest computed anyLists rings
  iintro ⟨HT, ⟨%z, Hz⟩, ⟨%fb, %fi, Hb, Hi⟩, HW, HX, HO, ⟨Hi0, Hi1, Ho0, Ho1⟩, Hc⟩
  ihave HX := (Entails.of_eq (sep_kinds nr (inP c X))) $$ HX
  icases HX with ⟨HXl, HXd⟩
  ihave HO := (Entails.of_eq (sep_kinds nr (outP c f₀))) $$ HO
  icases HO with ⟨HOl, HOd⟩
  -- the zero block, and the copies of it
  iapply (peek_zero c z) $$ Hz
  iintro Hz
  iapply (store_zero c z) $$ Hz
  iintro Hz
  ihave HP := (zero_pieces c (nr := nr) (Z := zeroBlk c) f₀) $$ [Hz HOd]
  · isplitl [Hz] <;> iassumption
  icases HP with ⟨Hz, HP⟩
  imod (Transfers.batch_alloc' (EC (F := F)) (c : Thread nD τ) (sm := zeroCell) () NB (fun j : Fin (NZ nr) => zDone c nr G (zeroBlk c) j.val) (E := Set.univ)) $$ Hc with HB
  iapply (wp_loop c k0_t1_loop 8 trips1 k0_t1_ok 0#32 _ (zBatchInv c nr G f₀ (zeroBlk c) T q) (zero_batch c hZ hT q i)) $$ [HT HB HP]
  · unfold zBatchInv zInv
    rw [Nat.mul_zero, Nat.count_zero]
    isplitl [HT]; · iexact HT
    isplitr; · ipureintro; rfl
    isplitl [HB] <;> iassumption
  iintro %n0 HI
  unfold zBatchInv zInv
  icases HI with ⟨HT, %e0, HB, -⟩
  subst e0
  iapply (wp_cond c (chk17_of ⟨NZ nr, count_lt_33 _⟩))
  -- the lists
  iapply (wp_loop c k0_t4_loop 32 trips4 k0_t4_ok 0#32 _ (listInv c nr T q) (list_step c hT q i)) $$ [HT Hb Hi]
  · unfold listInv lists
    rw [Nat.count_zero]
    isplitr; · ipureintro; rfl
    isplitl [HT]; · iexact HT
    iexists fb, fi
    isplitr
    · ipureintro
      exact fun _ h => absurd h (Nat.not_lt_zero _)
    isplitl [Hb] <;> iassumption
  iintro %n1 HI
  unfold listInv
  icases HI with ⟨%e1, HT, HL⟩
  subst e1
  have hw4 := chk4_of ⟨NL nr, count_lt_33 _⟩
  iapply (wp_cond c hw4)
  -- the ring
  iapply (fetch_first c (n := ⟨NL nr, count_lt_33 _⟩) (X := X) (f₀ := f₀) rfl) $$ [HL HXl HOl Hi0]
  · isplitl [HL]; · iexact HL
    isplitl [HXl HOl]
    · rw [todo_zero]
      unfold fresh
      rw [bigSep_sep']
      isplitl [HXl] <;> iassumption
    iexact Hi0
  iintro ⟨HL, Htodo, Hin⟩
  iapply (wp_loop c (k0_t5_loop (BitVec.ofNat 32 (NL nr))) (NL nr) (trips5 ⟨NL nr, count_lt_33 _⟩) (k0_t5_ok _ hw4) () _
    (fun t _ => ringInv c nr X G f₀ T q t) (fun t acc => trip c (n := ⟨NL nr, count_lt_33 _⟩) rfl hT hG i t hw4 acc)) $$ [HT HL HW Htodo Hin Hi1 Ho0 Ho1]
  · unfold ringInv
    isplitl [HT]; · iexact HT
    isplitl [HL]; · iexact HL
    isplitl [HW]; · iexact HW
    isplitl [Htodo]; · iexact Htodo
    isplitl [Hin]; · iexact Hin
    isplitl [Hi1]; · iexact Hi1
    isplitr
    · rw [done_zero, bigSep_empty]; iempintro
    isplitl [Ho1]
    · rw [outAt_neg c (by omega)]; iexact Ho1
    isplitl [Ho0]
    · rw [outAt_neg c (by omega)]; iexact Ho0
    rw [Nat.zero_sub, done_zero, bigSep_empty]; iempintro
  iintro %u0 HR
  unfold ringInv
  icases HR with ⟨HT, HL, HW, -, Hin, Hi1, HXl, Ho1, Ho2, HOl⟩
  ihave Hin := (Entails.of_eq (inAt_neg c (lt_irrefl (NL nr)))) $$ Hin
  ihave HI := (both_slots (fun s => inFree (F := F) c s) (NL nr)) $$ [Hin Hi1]
  · isplitl [Hin] <;> iassumption
  iapply (wp_loop_none c (k0_t6_loop (BitVec.ofNat 32 (NL nr))) (trips6 ⟨NL nr, count_lt_33 _⟩) (k0_t6_ok _ hw4) () _ (fun _ => iprop(emp))) $$ []
  · iempintro
  iintro %u1 -
  -- the last two results
  iapply (wp_loop c (k0_t7_loop (BitVec.ofNat 32 (NL nr))) (NL nr - (NL nr - 2)) (trips7 ⟨NL nr, count_lt_33 _⟩) (k0_t7_ok _ hw4) () _
    (fun t _ => drainInv c nr G (NL nr - 2 + t)) (fun t acc => drain_step c (n := ⟨NL nr, count_lt_33 _⟩) rfl i t hw4 acc)) $$ [HL HW Ho1 Ho2 HOl]
  · unfold drainInv
    isplitl [HL]; · iexact HL
    isplitl [HW]; · iexact HW
    isplitl [Ho1]
    · iapply (Entails.of_eq (pend_first c (nr := nr) (G := G) (show 0 < 1 by decide) (by decide))) $$ Ho1
    isplitl [Ho2]
    · iapply (Entails.of_eq (pend_first c (nr := nr) (G := G) (show 0 < 2 by decide) (by decide))) $$ Ho2
    iexact HOl
  iintro %u2 HR
  iapply (wp_loop_none c (k0_t8_loop (BitVec.ofNat 32 (NL nr))) (trips8 ⟨NL nr, count_lt_33 _⟩) (k0_t8_ok _ hw4) () _ (fun _ => iprop(emp))) $$ []
  · iempintro
  iintro %u3 -
  iapply (wp_done c)
  ihave HR := (Entails.of_eq (show drainInv c nr G (NL nr - 2 + (NL nr - (NL nr - 2))) = drainInv c nr G (NL nr) by
    rw [show NL nr - 2 + (NL nr - (NL nr - 2)) = NL nr by omega])) $$ HR
  unfold drainInv lists
  icases HR with ⟨⟨%fb, %fi, -, Hb, Hi⟩, HW, Ho1, Ho2, HOl⟩
  ihave Ho1 := (Entails.of_eq (pend_neg c (by omega))) $$ Ho1
  ihave Ho2 := (Entails.of_eq (pend_neg c (by omega))) $$ Ho2
  ihave HOO := (both_slots (fun s => outFree (F := F) c s) (NL nr + 1)) $$ [Ho1 Ho2]
  · isplitl [Ho1] <;> iassumption
  icases HI with ⟨Hi0, Hi1⟩
  icases HOO with ⟨Ho0, Ho1⟩
  isplitr; · ipureintro; rfl
  isplitl [HT]; · iexact HT
  isplitl [Hz]; · iexact Hz
  isplitl [Hb Hi]
  · iexists fb, fi
    isplitl [Hb] <;> iassumption
  isplitl [HW]; · iexact HW
  isplitl [HXl HXd]
  · rw [sep_kinds nr, ← done_all (p := live nr) le_rfl]
    isplitl [HXl] <;> iassumption
  isplitl [HOl]
  · rw [← done_all (p := live nr) le_rfl]
    iexact HOl
  isplitl [Hi0 Hi1 Ho0 Ho1]
  · isplitl [Hi0]; · iexact Hi0
    isplitl [Hi1]; · iexact Hi1
    isplitl [Ho0] <;> iassumption
  iexact HB

/-- The kernel. -/
theorem kernel_body (hT : Counts c T nr) (hG : ∀ g : Fin 32, live nr g.val → ∀ y, G (blkAt g y) = blkOut c nr X g y)
    (hZ : ∀ g : Fin 32, dead nr g.val → ∀ x, G (blkAt g (unsq x)) = zeroBlk (F := F) c x) (i : grid0.Coords) {h1 h2 h3 h4 h5 h6 h10 h11} :
    atRest c X f₀ T q
      ⊢ wp' (cc0__voting_kernel i tabM h1 inM h2 outM h3 inRing h4 outRing h5 zeroM h6 cc0_scratch3 cc0_scratch4 cc0_scratch5 bofM h10 iofM h11)
          (fun _ => atRest c X G T q) := by
  rw [cc0__voting_kernel_eq_skeleton]
  unfold cc0__voting_kernel_skel
  rw [wp_bind]
  iintro H
  iapply (wp_wand_r Idealize.ShloMosaic.frame (wpE (defs₀ (F := F)) 𝒱₀ (c : Thread nD τ) none) Set.univ)
  isplitl [H]
  · iapply (compute c hT hG hZ i); iexact H
  iintro %r ⟨%hr, H⟩
  subst hr
  unfold computed atRest
  icases H with ⟨HT, Hz, HL, HW, HX, HO, HR, HB⟩
  imod (zWait_first c) $$ [HB HW] with HI
  · isplitl [HB] <;> iassumption
  have hw := chk17_of ⟨NZ nr, count_lt_33 _⟩
  iapply (wp_loop c (k0_t9_loop (BitVec.ofNat 32 (NZ nr))) (NZ nr) (trips9 ⟨NZ nr, count_lt_33 _⟩) (k0_t9_ok _ hw) () _
    (fun t _ => zWaitInv c nr G (zeroBlk c) t) (fun t acc => zero_wait c (n := ⟨NZ nr, count_lt_33 _⟩) rfl i t hw acc)) $$ HI
  iintro %u0 HI
  iapply (wp_loop_none c (k0_t10_loop (BitVec.ofNat 32 (NZ nr))) (trips10 ⟨NZ nr, count_lt_33 _⟩) (k0_t10_ok _ hw) () _ (fun _ => iprop(emp))) $$ []
  · iempintro
  iintro %u1 -
  iapply (wp_done c)
  ihave HI := (Entails.of_eq (zWaitInv_all c (lt_irrefl (NZ nr)))) $$ HI
  icases HI with ⟨HA, HW⟩
  ihave HD := (zero_done c G) $$ [Hz HA]
  · isplitl [Hz] <;> iassumption
  icases HD with ⟨Hz, HOd, Hc⟩
  isplitl [HT]; · iexact HT
  isplitl [Hz]
  · iexists (zeroBlk c); iexact Hz
  isplitl [HL]; · iexact HL
  isplitl [HW]; · iexact HW
  isplitl [HX]; · iexact HX
  isplitl [HO HOd]
  · rw [sep_kinds nr]
    isplitl [HO] <;> iassumption
  isplitl [HR] <;> iassumption

end Cert.Proof.KernelIdeal
-- ==== Proof.KernelIdeal.Result.lean ====
/-
  What the kernel leaves in its result, and the arrays and rings held whole against the same held in pieces.
-/
module

public import proofs.«01_k».proof.Proof.KernelIdeal.Body

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD)

/-! ## The result -/

/-- The block an element of an array lies in, -/
def blkIdx (i : S8x2048x2048.Idx) : Fin 32 :=
  ⟨4 * (i 0).val + (i 1).val / 512, by
    have h0 : (i 0).val < 8 := (i 0).isLt
    have h1 : (i 1).val < 2048 := (i 1).isLt
    omega⟩

/-- and where in the block. -/
def inBlk (i : S8x2048x2048.Idx) : S1x512x2048.Idx := fun a => match a with
  | ⟨0, _⟩ => ⟨0, Nat.one_pos⟩
  | ⟨1, _⟩ => ⟨(i 1).val % 512, Nat.mod_lt _ (by decide)⟩
  | ⟨2, _⟩ => ⟨(i 2).val, (i 2).isLt⟩

theorem blkAt_val (g : Fin 32) (y : S1x512x2048.Idx) :
    (blkAt g y 0).val = g.val / 4 ∧ (blkAt g y 1).val = g.val % 4 * 512 + (y 1).val ∧ (blkAt g y 2).val = (y 2).val := by
  have h0 : (y 0).val < 1 := (y 0).isLt
  refine ⟨?_, ?_, ?_⟩ <;> unfold blkAt <;> rw [ValueKit.rect_emb_unit_val]
  · show g.val / 4 + (y 0).val = g.val / 4; omega
  · rfl
  · show 0 + (y 2).val = (y 2).val; omega

theorem blkIdx_blkAt (g : Fin 32) (y : S1x512x2048.Idx) : blkIdx (blkAt g y) = g := by
  have h := blkAt_val g y
  have h1 : (y 1).val < 512 := (y 1).isLt
  apply Fin.ext
  show 4 * (blkAt g y 0).val + (blkAt g y 1).val / 512 = g.val
  omega

theorem inBlk_blkAt (g : Fin 32) (y : S1x512x2048.Idx) : inBlk (blkAt g y) = y := by
  have h := blkAt_val g y
  have h0 : (y 0).val < 1 := (y 0).isLt
  have h1 : (y 1).val < 512 := (y 1).isLt
  funext a
  apply Fin.ext
  fin_cases a
  · show 0 = (y 0).val; omega
  · show (blkAt g y 1).val % 512 = (y 1).val; omega
  · show (blkAt g y 2).val = (y 2).val; omega

theorem blkAt_inBlk (i : S8x2048x2048.Idx) : blkAt (blkIdx i) (inBlk i) = i := by
  have h := blkAt_val (blkIdx i) (inBlk i)
  have e : (blkIdx i).val = 4 * (i 0).val + (i 1).val / 512 := rfl
  have e1 : (inBlk i 1).val = (i 1).val % 512 := rfl
  have e2 : (inBlk i 2).val = (i 2).val := rfl
  have h1 : (i 1).val < 2048 := (i 1).isLt
  funext a
  apply Fin.ext
  fin_cases a
  · show (blkAt (blkIdx i) (inBlk i) 0).val = (i 0).val; omega
  · show (blkAt (blkIdx i) (inBlk i) 1).val = (i 1).val; omega
  · show (blkAt (blkIdx i) (inBlk i) 2).val = (i 2).val; omega

/-- What the kernel leaves at an element: of a live block what it computes, of a dead one zero. -/
def result (nr : ℕ → ℕ) (X : InBuf (F := F) c) : OutBuf (F := F) c := fun i =>
  if live nr (blkIdx i).val then blkOut c nr X (blkIdx i) (inBlk i) else zeroBlk (F := F) c (unsq.symm (inBlk i))

theorem result_live (nr : ℕ → ℕ) (X : InBuf (F := F) c) (g : Fin 32) (h : live nr g.val) (y : S1x512x2048.Idx) :
    result c nr X (blkAt g y) = blkOut c nr X g y := by
  unfold result; rw [blkIdx_blkAt, inBlk_blkAt, if_pos h]

theorem result_dead (nr : ℕ → ℕ) (X : InBuf (F := F) c) (g : Fin 32) (h : dead nr g.val) (x : S512x2048.Idx) :
    result c nr X (blkAt g (unsq x)) = zeroBlk (F := F) c x := by
  unfold result
  rw [blkIdx_blkAt, inBlk_blkAt, if_neg (fun h' => h.2 h'.2), Equiv.symm_apply_apply]

/-! ## Whole arrays and rings -/

/-- The blocks' elements, by block; -/
abbrev blkF (g : Fin 32) : Finset S8x2048x2048.Idx := blkS g.val
/-- the slots', by slot. -/
abbrev slotF (s : Fin 2) : Finset S2x512x2048.Idx := slotS s.val

theorem blkF_disjoint (g g' : Fin 32) (h : g ≠ g') : Disjoint (blkF g) (blkF g') := by
  rw [Finset.disjoint_left]
  intro i hi hi'
  exact h (Fin.ext ((Finset.mem_filter.mp hi).2.symm.trans (Finset.mem_filter.mp hi').2))

theorem blkF_cover : (Finset.univ : Finset (Fin 32)).biUnion blkF = Finset.univ :=
  Finset.eq_univ_iff_forall.mpr fun i =>
    Finset.mem_biUnion.mpr ⟨blkIdx i, Finset.mem_univ _, Finset.mem_filter.mpr ⟨Finset.mem_univ _, rfl⟩⟩

theorem slotF_disjoint (s s' : Fin 2) (h : s ≠ s') : Disjoint (slotF s) (slotF s') := by
  rw [Finset.disjoint_left]
  intro i hi hi'
  exact h (Fin.ext ((Finset.mem_filter.mp hi).2.symm.trans (Finset.mem_filter.mp hi').2))

theorem slotF_cover : (Finset.univ : Finset (Fin 2)).biUnion slotF = Finset.univ :=
  Finset.eq_univ_iff_forall.mpr fun i =>
    Finset.mem_biUnion.mpr ⟨⟨(i 0).val, (i 0).isLt⟩, Finset.mem_univ _, Finset.mem_filter.mpr ⟨Finset.mem_univ _, rfl⟩⟩

/-- The input whole is its blocks; -/
theorem input_blocks (X : InBuf (F := F) c) :
    (((c : Thread nD τ).loc main_arg0) ↦{fullShare} X : sProp 𝕄) = bigSep (Finset.range 32) (inP c X) := by
  rw [Ring.pointsTo_blocks (ℓ := (c : Thread nD τ).loc main_arg0) blkF blkF_disjoint blkF_cover]
  exact Ring.bigSep_fin_eq_range 32 _ (inP c X) fun _ _ => rfl

/-- so is the result. -/
theorem output_blocks (f : OutBuf (F := F) c) :
    (((c : Thread nD τ).loc main_v0) ↦{fullShare} f : sProp 𝕄) = bigSep (Finset.range 32) (outP c f) := by
  rw [Ring.pointsTo_blocks (ℓ := (c : Thread nD τ).loc main_v0) blkF blkF_disjoint blkF_cover]
  exact Ring.bigSep_fin_eq_range 32 _ (outP c f) fun _ _ => rfl

theorem both (Φ : Fin 2 → sProp 𝕄) : bigSep Finset.univ Φ = iprop(Φ 0 ∗ Φ 1) :=
  bigSep_univ_eq_bigSepL [0, 1] (by decide) (by decide) Φ

/-- The input ring whole is its two slots, -/
theorem inRing_split (f : RingBuf (F := F) c) :
    (((c : Thread nD τ).loc cc0_scratch0) ↦{fullShare} f : sProp 𝕄) ⊢ iprop(inSlot (F := F) c 0 ∗ inSlot (F := F) c 1) := by
  rw [Ring.pointsTo_blocks (ℓ := (c : Thread nD τ).loc cc0_scratch0) slotF slotF_disjoint slotF_cover, both]
  unfold inSlot
  iintro ⟨H0, H1⟩
  isplitl [H0]
  · iexists f; iexact H0
  · iexists f; iexact H1

theorem inRing_join :
    iprop(inSlot (F := F) c 0 ∗ inSlot (F := F) c 1)
      ⊢ (iprop(∃ f : RingBuf (F := F) c, ((c : Thread nD τ).loc cc0_scratch0) ↦{fullShare} f) : sProp 𝕄) := by
  unfold inSlot
  iintro ⟨⟨%f0, H0⟩, ⟨%f1, H1⟩⟩
  iapply (Ring.pointsTo_blocks_join_exists (ℓ := (c : Thread nD τ).loc cc0_scratch0) slotF slotF_disjoint slotF_cover f0)
  irw [both]
  isplitl [H0]
  · iexists f0; iexact H0
  · iexists f1; iexact H1

/-- and the output ring its. -/
theorem outRing_split (f : ORingBuf (F := F) c) :
    (((c : Thread nD τ).loc cc0_scratch1) ↦{fullShare} f : sProp 𝕄) ⊢ iprop(outSlot (F := F) c 0 ∗ outSlot (F := F) c 1) := by
  rw [Ring.pointsTo_blocks (ℓ := (c : Thread nD τ).loc cc0_scratch1) slotF slotF_disjoint slotF_cover, both]
  unfold outSlot
  iintro ⟨H0, H1⟩
  isplitl [H0]
  · iexists f; iexact H0
  · iexists f; iexact H1

theorem outRing_join :
    iprop(outSlot (F := F) c 0 ∗ outSlot (F := F) c 1)
      ⊢ (iprop(∃ f : ORingBuf (F := F) c, ((c : Thread nD τ).loc cc0_scratch1) ↦{fullShare} f) : sProp 𝕄) := by
  unfold outSlot
  iintro ⟨⟨%f0, H0⟩, ⟨%f1, H1⟩⟩
  iapply (Ring.pointsTo_blocks_join_exists (ℓ := (c : Thread nD τ).loc cc0_scratch1) slotF slotF_disjoint slotF_cover f0)
  irw [both]
  isplitl [H0]
  · iexists f0; iexact H0
  · iexists f1; iexact H1

end Cert.Proof.KernelIdeal

end
-- ==== Proof.KernelIdeal.Run.lean ====
/-
  The program's run: the one call of the kernel, launched on its arrays, ends with the result at `result`.
-/
module

public import proofs.«01_k».proof.Proof.KernelIdeal.Result
public import proofs.«01_k».proof.Proof.Gen.KernelIdeal.Launch

@[expose] public section

noncomputable section

namespace Cert.Proof.KernelIdeal

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

/-! ## What the call's invariant says -/

/-- The five cells the kernel's copies complete on. -/
abbrev ownCells : Fin 5 → SemLoc sig := ![.dma 0, .dma 1, .dma 2, .dma 3, .dma 4]
theorem ownCells_facts : Pipeline.OwnSemFacts spec0 ownCells := by decide

/-- The array the kernel reads, -/
abbrev readRefs : Finset (Ref sig .tc) := {main_arg0}
/-- and the one it writes. -/
abbrev wroteRefs : Finset (Ref sig .tc) := {main_v0}
theorem readRefs_sub : readRefs ⊆ Pipeline.restRefsP sig pre0 spec0 := by decide
theorem wroteRefs_sub : wroteRefs ⊆ Pipeline.restRefsP sig pre0 spec0 \ readRefs := by decide

variable (m : (ℓ : Loc nD τ sig) → Buf (Elt F) ℓ)

/-- The arrays' contents when the program starts. -/
abbrev start (c : Dev nD) (b : Ref sig .tc) : Buf (Elt F) ((c.tc : Thread nD τ).loc b) := m ((c.tc : Thread nD τ).loc b)

/-- The device's table of counts. -/
abbrev table : pre0.Contents (Elt F) := fun k => start m 0 (pre0.ref k)
abbrev tables (p : Fin 1) : (pcfgs (F := F) p).Adm := ⟨table m, trivial⟩

theorem table_start (c : Dev nD) (k : Fin pre0.K) : start m c (pre0.ref k) = table m k := by
  rw [Subsingleton.elim c 0]

section Invariant
variable (c : Dev nD) (W : (c : Dev nD) → (b : Ref sig .tc) → Buf (Elt F) ((c.tc : Thread nD τ).loc b))

/-- The call's invariant, the result at what `W` says. -/
def callInv : sProp 𝕄 :=
  iprop(Pipeline.ΦDRG ownCells spec0 readRefs wroteRefs (start m) W c ∗ Pipeline.ΦT pre0 (table m) c)

theorem table_eq :
    (Pipeline.ΦT pre0 (table m) c : sProp 𝕄) = (((c : Thread nD τ).loc main_arg1) ↦{fullShare.right} table m 0) := by
  unfold Pipeline.ΦT Pipeline.prefHeld
  exact bigSep_univ_eq_bigSepL [0] (by decide) (by decide) _

theorem read_eq :
    (bigSep readRefs (fun b => ((c : Thread nD τ).loc b) ↦{fullShare} start m c b) : sProp 𝕄)
      = (((c : Thread nD τ).loc main_arg0) ↦{fullShare} start m c main_arg0) := by
  rw [BI.bigSep_eq_bigSepL_of_eq [main_arg0] (by decide) (by decide)]; rfl

theorem wrote_eq :
    (Pipeline.routed wroteRefs c (W c) : sProp 𝕄) = (((c : Thread nD τ).loc main_v0) ↦{fullShare} W c main_v0) := by
  unfold Pipeline.routed
  rw [BI.bigSep_eq_bigSepL_of_eq [main_v0] (by decide) (by decide)]; rfl

theorem cells_eq :
    (Pipeline.ownSems0 (Ix := Unit) (Name := ℕ) (U := UU nD τ) (Lvl := ℕ) (Val := Elt F) (τ := τ) ownCells c : sProp 𝕄)
      = iprop(semVal ((c : Thread nD τ), inCell 0) 0 ∗ semVal ((c : Thread nD τ), inCell 1) 0
        ∗ semVal ((c : Thread nD τ), outCell 0) 0 ∗ semVal ((c : Thread nD τ), outCell 1) 0
        ∗ semVal ((c : Thread nD τ), zeroCell) 0) := by
  rw [Pipeline.ownSems0_eq_of_list c ownCells [0, 1, 2, 3, 4] (by decide) (by decide)]; rfl

/-- The invariant is everything at rest, and the generator's register. -/
theorem callInv_enter :
    iprop(callInv m c W ∗ waits (F := F) c)
      ⊢ iprop(atRest c (start m c main_arg0) (W c main_v0) (table m 0) fullShare.right ∗ ∃ r, prngReg c r) := by
  unfold callInv
  rw [Pipeline.ΦDRG_eq, scopedRest0_eq, cells_eq, read_eq, wrote_eq, table_eq]
  unfold atRest anyLists rings inFree outFree
  iintro ⟨⟨⟨⟨⟨%f0, H0⟩, ⟨%f1, H1⟩, ⟨%f2, H2⟩, ⟨%f6, H6⟩, ⟨%f7, H7⟩⟩, Hg, ⟨Hi0, Hi1, Ho0, Ho1, Hz⟩, Hx, Hw⟩, HT⟩, HW⟩
  ihave H0 := (inRing_split c f0) $$ H0
  icases H0 with ⟨Ha, Hb⟩
  ihave H1 := (outRing_split c f1) $$ H1
  icases H1 with ⟨Hc, Hd⟩
  ihave Hx := (Entails.of_eq (input_blocks c _)) $$ Hx
  ihave Hw := (Entails.of_eq (output_blocks c _)) $$ Hw
  isplitr [Hg]
  · isplitl [HT]; · iexact HT
    isplitl [H2]; · iexists f2; iexact H2
    isplitl [H6 H7]
    · iexists f6, f7
      isplitl [H6]; · iexact H6
      iexact H7
    isplitl [HW]; · iexact HW
    isplitl [Hx]; · iexact Hx
    isplitl [Hw]; · iexact Hw
    isplitl [Hi0 Hi1 Ho0 Ho1 Ha Hb Hc Hd]
    · isplitl [Hi0 Ha]
      · isplitl [Hi0] <;> iassumption
      isplitl [Hi1 Hb]
      · isplitl [Hi1] <;> iassumption
      isplitl [Ho0 Hc]
      · isplitl [Ho0] <;> iassumption
      isplitl [Ho1] <;> iassumption
    iexact Hz
  · iexact Hg

theorem callInv_leave :
    iprop(atRest c (start m c main_arg0) (W c main_v0) (table m 0) fullShare.right ∗ ∃ r, prngReg c r)
      ⊢ iprop(callInv m c W ∗ waits (F := F) c) := by
  unfold callInv
  rw [Pipeline.ΦDRG_eq, scopedRest0_eq, cells_eq, read_eq, wrote_eq, table_eq]
  unfold atRest anyLists rings inFree outFree
  iintro ⟨⟨HT, ⟨%f2, H2⟩, ⟨%f6, %f7, H6, H7⟩, HW, Hx, Hw, ⟨⟨Hi0, Ha⟩, ⟨Hi1, Hb⟩, ⟨Ho0, Hc⟩, ⟨Ho1, Hd⟩⟩, Hz⟩, Hg⟩
  ihave H0 := (inRing_join (F := F) c) $$ [Ha Hb]
  · isplitl [Ha] <;> iassumption
  ihave H1 := (outRing_join (F := F) c) $$ [Hc Hd]
  · isplitl [Hc] <;> iassumption
  ihave Hx := (Entails.of_eq (input_blocks c _).symm) $$ Hx
  ihave Hw := (Entails.of_eq (output_blocks c _).symm) $$ Hw
  isplitr [HW]
  · isplitr [HT]
    · isplitl [H0 H1 H2 H6 H7]
      · isplitl [H0]; · iexact H0
        isplitl [H1]; · iexact H1
        isplitl [H2]; · iexists f2; iexact H2
        isplitl [H6]; · iexists f6; iexact H6
        iexists f7; iexact H7
      isplitl [Hg]; · iexact Hg
      isplitl [Hi0 Hi1 Ho0 Ho1 Hz]
      · isplitl [Hi0]; · iexact Hi0
        isplitl [Hi1]; · iexact Hi1
        isplitl [Ho0]; · iexact Ho0
        isplitl [Ho1] <;> iassumption
      isplitl [Hx] <;> iassumption
    · iexact HT
  · iexact HW

end Invariant

/-! ## The counts, the result, the kernel's run -/

/-- The counts the table holds. -/
def counts (b : ℕ) : ℕ := if h : b < 8 then BitVec.toNat (start m 0 main_arg1 (at8 ⟨b, h⟩)) else 0

/-- No count is more than an array's height. -/
def InRange : Prop := ∀ b : Fin 8, BitVec.toNat (start m 0 main_arg1 (at8 b)) ≤ 2048

theorem counts_table (c : Dev nD) (h : InRange m) : Counts (F := F) c (table m 0) (counts m) where
  word b := by
    unfold counts
    rw [dif_pos b.isLt]
    exact (by simp : start m 0 main_arg1 (at8 b) = BitVec.ofNat 32 (BitVec.toNat (start m 0 main_arg1 (at8 b))))
  le b := by
    unfold counts
    split
    · exact h _
    · omega

/-- The arrays' contents when the program ends. -/
abbrev final (c : Dev nD) : (b : Ref sig .tc) → Buf (Elt F) ((c.tc : Thread nD τ).loc b) :=
  Function.update (start m c) main_v0 (result c (counts m) (start m c main_arg0))

theorem final_result (c : Dev nD) : final m c main_v0 = result c (counts m) (start m c main_arg0) := Function.update_self _ _ _

/-- The call's proof data: nothing is staged, nothing owed, the invariant as above. -/
def dats (p : Fin 1) (c : Dev nD) : Dat τ (Elt F) Unit ℕ (UU nD τ) ℕ (Pipeline.pin (pcfgs (F := F)) (tables m) p) c where
  A w := start m c (Pipeline.arrRef spec0 w)
  after w _ := w.elim0
  Φ t := callInv m c (if t.val = 0 then start m else final m)
  q _ := fullShare
  owed _ := 0

abbrev bodyAt (t : Fin grid0.N) : Prog (TpuEff nD τ sig (Elt F) Λ₀ .tc) PUnit :=
  cc0__voting_kernel (grid0.coords t) (Memref.whole main_arg1) (Memref.isWhole_whole _) (Memref.whole main_arg0) (Memref.isWhole_whole _)
    (Memref.whole main_v0) (Memref.isWhole_whole _) (Memref.whole cc0_scratch0) (Memref.isWhole_whole _) (Memref.whole cc0_scratch1) (Memref.isWhole_whole _)
    (Memref.whole cc0_scratch2) (Memref.isWhole_whole _) cc0_scratch3 cc0_scratch4 cc0_scratch5 (Memref.whole cc0_scratch6) (Memref.isWhole_whole _)
    (Memref.whole cc0_scratch7) (Memref.isWhole_whole _)

theorem sound_body (hR : InRange m) (c : Dev nD) (t : Fin grid0.N) :
    iprop((dats m 0 c).Φ t.castSucc ∗ (dats m 0 c).owesAt () t.castSucc ∗ emp)
      ⊢ wp frame (wpE (defs₀ (F := F)) Variants.none c none) Set.univ (bodyAt t)
          (fun _ => iprop((dats m 0 c).Φ t.succ ∗ (dats m 0 c).owesAt () t.succ ∗ emp)) := by
  obtain rfl := fin_N0 t
  rw [show (dats m 0 c).Φ t0_0.castSucc = callInv m c (start m) from rfl,
    show (dats m 0 c).Φ t0_0.succ = callInv m c (final m) from rfl]
  unfold Dat.owesAt Pipeline.owesWithin
  rw [show (dats m 0 c).owed t0_0.castSucc = 0 from rfl, show (dats m 0 c).owed t0_0.succ = 0 from rfl]
  iintro ⟨HI, ⟨%W, -, HW⟩, -⟩
  ihave H := (callInv_enter m c (start m)) $$ [HI HW]
  · isplitl [HI]; · iexact HI
    unfold waits
    iexists W; iexact HW
  icases H with ⟨HA, Hg⟩
  iapply (wp_wand_r Idealize.ShloMosaic.frame (wpE (defs₀ (F := F)) 𝒱₀ (c : Thread nD τ) none) Set.univ)
  isplitl [HA]
  · iapply (kernel_body c (counts_table m c hR) (G := final m c main_v0)
      (fun g h y => by rw [final_result]; exact result_live c _ _ g h y)
      (fun g h x => by rw [final_result]; exact result_dead c _ _ g h x) (grid0.coords t0_0))
    iexact HA
  · iintro %r HA
    ihave H := (callInv_leave m c (final m)) $$ [HA Hg]
    · isplitl [HA] <;> iassumption
    unfold waits
    icases H with ⟨HI, ⟨%W', HW'⟩⟩
    isplitl [HI]; · iexact HI
    isplitl [HW']
    · iexists W'
      isplitr
      · ipureintro; exact fun _ _ => Or.inl trivial
      · iexact HW'
    · iempintro

theorem no_windows (c : Dev nD) (Φ : Fin 0 → sProp 𝕄) : bigSep Finset.univ Φ = iprop(emp) :=
  bigSep_univ_eq_bigSepL [] (by decide) (by decide) Φ

theorem body_obligation (hR : InRange m) (c : Dev nD) :
    BodyObligation (dats m 0 c) (defs₀ (F := F)) Variants.none () Set.univ := fun t => by
  rw [show (defs₀ (F := F)) .tc (Pipeline.pin (pcfgs (F := F)) (tables m) 0).body _ = bodyAt t from by unfold defs₀; rw [Defs.onTc_tc]]
  exact triple_restated (sound_body m hR c t) rfl (by rw [no_windows c]) fun _ => by rw [no_windows c]

set_option backward.isDefEq.respectTransparency.types false in
/-- From any arrays, the counts in range, the program ends with the result as described, the arguments unchanged and
    every cell at zero. -/
theorem run (hR : InRange m) (ρ : Dev nD → PrngReg) :
    θ_run (defs (F := F)) (onTc (τ := τ) (main (F := F))) ⟨m, fun _ => 0, ρ⟩ (fun r => (∀ c : Dev nD,
      r.2.mem ((c.tc : Thread nD τ).loc main_v0) = result c (counts m) (start m c main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frameP_dmaRG (Q' := _) pcfgs (tables m) (dats m) (0 : Fin 1) launch0 ownCells defs₀ Variants.none ownCells_facts
    readRefs wroteRefs readRefs_sub wroteRefs_sub m ρ main
    (hbody := fun c => (body_obligation m hR c).loose) (hshare := fun c => (dats m 0 c).share_full fun _ => rfl)
    (howed := fun _ _ => rfl) (V := start m)
    (hmain := Pipeline.hmainP_region pcfgs 0 defs₀ Variants.none m main fun c => (main_chain c).trans rfl)
    (hA := fun _ w => w.elim0) (hpf := table_start m) (G := final m)
    (hin := fun _ => .rfl)
    (hout := fun c => by
      rw [show (dats m 0 c).Φ (Fin.last _) = callInv m c (final m) from rfl]
      unfold callInv
      iintro ⟨H, -⟩
      iexact H)
    (hQ' := fun r h => ⟨fun c => ⟨(h.1.2 c main_v0 (by decide)).trans (final_result m c),
      (h.1.1 c).2 main_arg0 (Finset.mem_sdiff.mpr ⟨Pipeline.mem_restRefs_of main_arg0 (by decide) (fun w => w.elim0), by decide⟩),
      (h.1.1 c).2 main_arg1 (Finset.mem_sdiff.mpr ⟨Pipeline.mem_restRefs_of main_arg1 (by decide) (fun w => w.elim0), by decide⟩)⟩, h.2⟩)

end Cert.Proof.KernelIdeal

end
-- ==== Proof.Value.Softmax.lean ====
/-
  One row of the softmax on the extended reals: its maximum, its exponentials and their sum; and that the sum is not zero
  when the maximum of the unscaled row is finite, so that multiplying by the sum's reciprocal is dividing by the sum.
-/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Proof.Value

open Idealize.ShloMosaic

variable {n : ℕ}

/-- A row's largest element; -/
def rowMax (u : Fin n → EReal) : EReal := (Finset.univ : Finset (Fin n)).fold max ⊥ u
/-- the exponential of an element less the largest; -/
def rowExp (u : Fin n → EReal) (k : Fin n) : EReal := Ideal.exp (u k - rowMax u)
/-- the sum of the row's exponentials. -/
def rowSum (u : Fin n → EReal) : EReal := ∑ k, rowExp u k

theorem le_rowMax (u : Fin n → EReal) (k : Fin n) : u k ≤ rowMax u :=
  Finset.le_fold_max (b := ⊥) (f := u) (s := Finset.univ) (u k) |>.mpr (Or.inr ⟨k, Finset.mem_univ k, le_rfl⟩)

/-- A row whose largest element is not `⊥` has an element equal to it. -/
theorem exists_rowMax (u : Fin n → EReal) (h : rowMax u ≠ ⊥) : ∃ k, u k = rowMax u := by
  rcases (Finset.le_fold_max (b := ⊥) (f := u) (s := Finset.univ) (rowMax u)).mp le_rfl with h' | ⟨k, _, hk⟩
  · exact absurd (le_bot_iff.mp h') h
  · exact ⟨k, le_antisymm (le_rowMax u k) hk⟩

theorem exp_nonneg (x : EReal) : 0 ≤ Ideal.exp x := by
  induction x using EReal.rec with
  | bot => exact le_rfl
  | top => exact le_top
  | coe r => exact EReal.coe_nonneg.mpr (Real.exp_pos r).le

theorem rowSum_ne_zero (u : Fin n → EReal) (hb : rowMax u ≠ ⊥) (ht : rowMax u ≠ ⊤) : rowSum u ≠ 0 := by
  obtain ⟨k, hk⟩ := exists_rowMax u hb
  have h1 : rowExp u k = 1 := by
    unfold rowExp
    rw [hk, EReal.sub_self ht hb]
    show ((Real.exp 0 : ℝ) : EReal) = 1
    rw [Real.exp_zero]; rfl
  have h2 : rowExp u k ≤ rowSum u :=
    Finset.single_le_sum (f := rowExp u) (fun i _ => exp_nonneg _) (Finset.mem_univ k)
  rw [h1] at h2
  exact fun h0 => absurd (h0 ▸ h2) (not_le.mpr zero_lt_one)

/-- Scaling a row by a non-negative real scales its largest element, when that is finite; -/
theorem rowMax_scaled (a : ℝ) (ha : 0 ≤ a) (u : Fin n → EReal) (hb : rowMax u ≠ ⊥) :
    rowMax (fun k => (a : EReal) * u k) = a * rowMax u := by
  obtain ⟨k, hk⟩ := exists_rowMax u hb
  apply le_antisymm
  · exact (Finset.fold_max_le _).mpr ⟨bot_le, fun j _ =>
      mul_le_mul_of_nonneg_left (le_rowMax u j) (EReal.coe_nonneg.mpr ha)⟩
  · rw [← hk]; exact le_rowMax (fun k => (a : EReal) * u k) k

/-- so the sum of the scaled row's exponentials is not zero. -/
theorem rowSum_scaled_ne_zero (a : ℝ) (ha : 0 ≤ a) (u : Fin n → EReal) (hb : rowMax u ≠ ⊥) (ht : rowMax u ≠ ⊤) :
    rowSum (fun k => (a : EReal) * u k) ≠ 0 := by
  obtain ⟨r, hr⟩ : ∃ r : ℝ, rowMax u = (r : EReal) := ⟨(rowMax u).toReal, (EReal.coe_toReal ht hb).symm⟩
  have hm : rowMax (fun k => (a : EReal) * u k) = ((a * r : ℝ) : EReal) := by
    rw [rowMax_scaled a ha u hb, hr, EReal.coe_mul]
  exact rowSum_ne_zero _ (hm ▸ EReal.coe_ne_bot _) (hm ▸ EReal.coe_ne_top _)

/-- Then an exponential times the sum's reciprocal is its quotient by the sum. -/
theorem rowExp_mul_reciprocal (u : Fin n → EReal) (h : rowSum u ≠ 0) (k : Fin n) :
    rowExp u k * Ideal.div 1 (rowSum u) = Ideal.div (rowExp u k) (rowSum u) :=
  Ideal.mul_one_div h

theorem ofBits_200 : Ideal.ofBits .f32 0x43480000#32 = ((200 : ℝ) : EReal) := by
  simp [Ideal.ofBits, Ideal.ieee]
  rw [← EReal.coe_mul]
  norm_num

theorem ofBits_ninf : Ideal.ofBits .f32 0xFF800000#32 = (⊥ : EReal) := by
  simp [Ideal.ofBits, Ideal.ieee]

/-- A maximum over the columns of an array of batches, read at a row. -/
theorem hostMax_apply {t u : Shape} (h : (⟨3, ![8, 2048, 2048]⟩ : Shape).ReducesTo [2] t) (hu : 0 < u.numel)
    (S : FVec Ideal (⟨3, ![8, 2048, 2048]⟩ : Shape) .f32) (b : Fin 8) (r : Fin 2048) (j : t.Idx)
    (hb : (j ⟨0, h.lt_r3_a2_0⟩).val = b.val) (hr : (j ⟨1, h.lt_r3_a2_1⟩).val = r.val) :
    Host.reduce FloatOps.maximumf S (constant u .f32 0xFF800000#32) h hu j = rowMax fun k => S (ix3 b r k) := by
  rw [Host.reduce_eq_fold, h.fold_fiber_r3_a2]
  have eb : (⟨(j ⟨0, h.lt_r3_a2_0⟩).val, Shape.coordLt (j ⟨0, h.lt_r3_a2_0⟩) h.size_r3_a2_0⟩ : Fin 8) = b := Fin.ext hb
  have er : (⟨(j ⟨1, h.lt_r3_a2_1⟩).val, Shape.coordLt (j ⟨1, h.lt_r3_a2_1⟩) h.size_r3_a2_1⟩ : Fin 2048) = r := Fin.ext hr
  rw [eb, er]
  have e0 : constant (F := Ideal) u .f32 0xFF800000#32 (Shape.Idx.first hu) = (⊥ : EReal) := ofBits_ninf
  rw [e0]
  rfl

end Cert.Proof.Value

end
-- ==== Proof.Value.Counts.lean ====
/-
  Words that hold numbers from 0 to 2048: a count, a row's number, and the rows of a block that are within a count. As
  signed words they compare as the numbers do.
-/
module

public import Idealize.ShloMosaic.Lib.Affine

@[expose] public section

namespace Cert.Proof.Value

open Idealize.ShloMosaic

/-- A word between 0 and 2048, read signed, is one between 0 and 2048. -/
theorem toNat_le_of_bounds (w : BitVec 32) (h0 : (0#32).toInt ≤ w.toInt) (h1 : w.toInt ≤ (2048#32).toInt) : w.toNat ≤ 2048 := by
  have e0 : (0#32 : BitVec 32).toInt = 0 := by decide
  have e1 : (2048#32 : BitVec 32).toInt = 2048 := by decide
  rw [e0] at h0
  rw [e1] at h1
  have hw : w.toNat < 2 ^ 32 := w.isLt
  rw [BitVec.toInt_eq_toNat_cond] at h0 h1
  split at h0 <;> omega

/-- Against a count, a row's number is compared as the number it is. -/
theorem toInt_small (n : ℕ) (h : n ≤ 2048) : (BitVec.ofNat 32 n).toInt = n := by
  have e : (BitVec.ofNat 32 n).toNat = n := by
    rw [BitVec.toNat_ofNat]; exact Nat.mod_eq_of_lt (by omega)
  rw [BitVec.toInt_eq_toNat_cond, e]
  split <;> omega

theorem toInt_count (w : BitVec 32) (h : w.toNat ≤ 2048) : w.toInt = w.toNat := by
  rw [BitVec.toInt_eq_toNat_cond]
  split <;> omega

/-- A row's number is below a count, signed, when it is below it. -/
theorem slt_count (n : ℕ) (hn : n ≤ 2048) (w : BitVec 32) (hw : w.toNat ≤ 2048) :
    IntOp.cmpi .slt (BitVec.ofNat 32 n) w = 1#1 ↔ n < w.toNat := by
  rw [IntOp.cmpi_slt, toInt_small n hn, toInt_count w hw]
  omega

/-- A count less the rows before a block that starts within it. -/
theorem toNat_rows (n q : ℕ) (hn : n ≤ 2048) (hq : q < 4) (h : q * 512 < n) :
    (Scalar.subi (BitVec.ofNat 32 n) (Scalar.muli (BitVec.ofNat 32 q) 512#32)).toNat = n - q * 512 := by
  show (BitVec.ofNat 32 n - BitVec.ofNat 32 q * 512#32).toNat = n - q * 512
  rw [BitVec.toNat_sub, BitVec.toNat_mul, BitVec.toNat_ofNat, BitVec.toNat_ofNat, BitVec.toNat_ofNat]
  omega

end Cert.Proof.Value
-- ==== Proof.Value.Pre.lean ====
/-
  What the preconditions say: the counts are between 0 and 2048; and the largest score of every row within a count is
  finite.
-/
module

public import proofs.«01_k».proof.Proof.Value.Softmax
public import proofs.«01_k».proof.Proof.Value.Counts
public import proofs.«01_k».proof.Proof.Gen.Pre_counts_in_range
public import proofs.«01_k».proof.Pre_rows_finite
public import Idealize.ShloMosaic.Lib.ReduceAll
public import Idealize.ShloMosaic.Lib.Pointwise

@[expose] public section

set_option maxRecDepth 16384

noncomputable section

namespace Cert.Proof.Value

open Idealize.ShloMosaic

/-- The shape relations that the second precondition's operations take. -/
instance rowsFiniteFacts : Cert.Pre_rows_finite.Facts where
  reducesTo_S8x2048x2048_S8x2048_d2 := by decide
  h_S_ := by decide
  bcast_S2048_S1x2048_1 := by decide
  bcast_S8_S8x1_0 := by decide
  bcast_S1x2048_S8x2048_0_1 := by decide
  bcast_S8x1_S8x2048_0_1 := by decide
  bcast_S_S8 := by decide
  reducesTo_S8_S_d0 := by decide
  bcast_S_S8x2048 := by decide
  reducesTo_S8x2048_S_d0_1 := by decide

section Counts
open Cert.Pre_counts_in_range

/-- The first precondition bounds every count. -/
theorem counts_of_pre {F : FTy → Type} [FloatOps F] (X : FVec F S8x2048x2048 .f32) (N : IVec S8 32)
    (h : fn (F := F) X N = fun _ => 1#1) (b : S8.Idx) : (N b).toNat ≤ 2048 := by
  have := Host.reduce_andi_all (t := S_) _ _ _ _ (fun a => a.elim0) (congrFun h fun a => a.elim0) b
  obtain ⟨h0, h1⟩ := IntOp.andi_eq_one.mp this
  exact toNat_le_of_bounds _ (IntOp.cmpi_sge.mp h0) (IntOp.cmpi_sle.mp h1)

end Counts

section Rows
open Cert.Pre_rows_finite

theorem past_apply (N : IVec S8 32) (b : Fin 8) (r : Fin 2048) :
    cmpi .sge (broadcastInDim S8x2048 ![0, 1] rowsFiniteFacts.bcast_S1x2048_S8x2048_0_1
        (broadcastInDim S1x2048 ![1] rowsFiniteFacts.bcast_S2048_S1x2048_1 (iotaInDim S2048 32 0)))
      (broadcastInDim S8x2048 ![0, 1] rowsFiniteFacts.bcast_S8x1_S8x2048_0_1
        (broadcastInDim S8x1 ![0] rowsFiniteFacts.bcast_S8_S8x1_0 N)) (ix2 b r)
      = IntOp.cmpi .sge (BitVec.ofNat 32 r.val) (N (ix1 b)) := by
  pointwise []

theorem finite_apply (M : FVec Ideal S8x2048 .f32) (i : S8x2048.Idx)
    (h : cmpf .olt (Host.absf M) (broadcastInDim S8x2048 ![] rowsFiniteFacts.bcast_S_S8x2048 (constant S_ .f32 0x7F800000#32)) i = 1#1) :
    M i ≠ ⊥ ∧ M i ≠ ⊤ := by
  have e : Ideal.ofBits .f32 0x7F800000#32 = (⊤ : EReal) := by simp [Ideal.ofBits, Ideal.ieee]
  have h' : Ideal.cmp .olt (max (M i) (-M i)) (Ideal.ofBits .f32 0x7F800000#32) = 1#1 := h
  rw [e] at h'
  have hl : max (M i) (-M i) < (⊤ : EReal) := by
    by_contra hn
    simp [Ideal.cmp, hn] at h'
  constructor
  · intro hb; rw [hb] at hl; simp at hl
  · intro hb; rw [hb] at hl; simp at hl

/-- The second precondition bounds every count, and makes the largest score of every row within its count finite. -/
theorem rows_of_pre (X : FVec Ideal S8x2048x2048 .f32) (N : IVec S8 32) (h : fn (F := Ideal) X N = fun _ => 1#1) :
    (∀ b : S8.Idx, (N b).toNat ≤ 2048) ∧ ∀ (b : Fin 8) (r : Fin 2048), r.val < (N (ix1 b)).toNat →
      rowMax (fun k => X (ix3 b r k)) ≠ ⊥ ∧ rowMax (fun k => X (ix3 b r k)) ≠ ⊤ := by
  obtain ⟨hc, hr⟩ := IntOp.andi_eq_one.mp (congrFun h fun a => a.elim0)
  have hN : ∀ b : S8.Idx, (N b).toNat ≤ 2048 := fun b => by
    obtain ⟨h0, h1⟩ := IntOp.andi_eq_one.mp (Host.reduce_andi_all (t := S_) _ _ _ _ (fun a => a.elim0) hc b)
    exact toNat_le_of_bounds _ (IntOp.cmpi_sge.mp h0) (IntOp.cmpi_sle.mp h1)
  refine ⟨hN, fun b r hlt => ?_⟩
  rcases IntOp.ori_eq_one.mp (Host.reduce_andi_all (t := S_) _ _ _ _ (fun a => a.elim0) hr (ix2 b r)) with hp | hf
  · have hle := IntOp.cmpi_sge.mp ((past_apply N b r).symm.trans hp)
    rw [toInt_count _ (hN (ix1 b)), toInt_small _ r.isLt.le] at hle
    omega
  · have hm := finite_apply _ _ hf
    beta_reduce at hm
    rwa [hostMax_apply _ _ X b r (ix2 b r) rfl rfl] at hm

end Rows

end Cert.Proof.Value

end
-- ==== Proof.Value.Kernel.lean ====
/-
  The kernel's result, read at an element.
-/
module

public import proofs.«01_k».proof.Proof.Value.Softmax
public import proofs.«01_k».proof.Proof.KernelIdeal.Result
public import Idealize.ShloMosaic.Lib.Pointwise

@[expose] public section

set_option maxRecDepth 16384

noncomputable section

namespace Cert.Proof.Value

open Idealize.ShloMosaic Cert.KernelIdeal Cert.KernelIdeal.Gen

/-- Row `r` of a block, scaled as the kernel does. -/
abbrev blockRow (V : Vec Ideal S1x512x2048 .f32) (r : Fin 512) (k : Fin 2048) : EReal := (200 : ℝ) * V (ix3 0 r k)

theorem exp_block_apply (S : FVec Ideal S512x2048 .f32) (r : Fin 512) (k : Fin 2048) :
    exp (subf S (broadcastTo S512x2048 (shapeCast S512x1
      (multiReduction .maximumf [1] S512 S 0xFF800000#32 reduces_S512x2048_S512 (.inl rfl) rfl) shapeCasts_S512_S512x1)
      broadcasts_S512x1_S512x2048)) (ix2 r k)
      = rowExp (fun k => S (ix2 r k)) k := by
  pointwise []
  rw [ofBits_ninf]
  rfl

theorem scores_block_apply (V : Vec Ideal S1x512x2048 .f32) (r : Fin 512) (k : Fin 2048) :
    mulf (F := Ideal) (φ := .f32) (shapeCast S512x2048 V shapeCasts_S1x512x2048_S512x2048)
      (broadcast S512x2048 (Scalar.ofBits .f32 0x43480000#32)) (ix2 r k) = blockRow V r k := by
  pointwise []
  rw [ofBits_200]
  exact mul_comm _ _

theorem sum_block_apply (E : FVec Ideal S512x2048 .f32) (r : Fin 512) :
    shapeCast S512x1 (multiReduction .add [1] S512 E 0x00000000#32 reduces_S512x2048_S512 (.inl rfl) rfl)
      shapeCasts_S512_S512x1 (ix2 r 0) = ∑ k, E (ix2 r k) := by
  pointwise []

/-- A block's exponentials, -/
theorem pay1_apply (V : Vec Ideal S1x512x2048 .f32) (r : Fin 512) (k : Fin 2048) :
    k0_pay1 (F := Ideal) V (ix2 r k) = rowExp (blockRow V r) k :=
  (exp_block_apply _ r k).trans (congrArg (fun u => rowExp u k) (funext fun k => scores_block_apply V r k))

/-- their sums, -/
theorem pay2_apply (V : Vec Ideal S1x512x2048 .f32) (r : Fin 512) :
    k0_pay2 (F := Ideal) V (ix2 r 0) = rowSum (blockRow V r) :=
  (sum_block_apply _ r).trans (Finset.sum_congr rfl fun k _ => pay1_apply V r k)

/-- the masked products with the sums' reciprocals, -/
theorem pay6_apply (w : BitVec 32) (E : FVec Ideal S512x2048 .f32) (Z : FVec Ideal S512x1 .f32) (r : Fin 512) (k : Fin 2048) :
    k0_pay6 w E Z (ix3 0 r k)
      = if IntOp.cmpi .slt (BitVec.ofNat 32 r.val) w = 1#1 then E (ix2 r k) * Ideal.div 1 (Z (ix2 r 0)) else 0 := by
  pointwise [k0_pay6]
  rfl

/-- and the zeros. -/
theorem pay5_apply (x : S512x2048.Idx) : k0_pay5 (F := Ideal) x = (0 : EReal) := by
  obtain ⟨r, k, rfl⟩ : ∃ (r : Fin 512) (k : Fin 2048), x = ix2 r k := ⟨x 0, x 1, by funext a; fin_cases a <;> rfl⟩
  pointwise [k0_pay5]

end Cert.Proof.Value

end
-- ==== Proof.Value.Reference.lean ====
/-
  The reference's result, read at an element.
-/
module

public import proofs.«01_k».proof.Proof.Value.Softmax
public import proofs.«01_k».proof.Proof.Gen.ReferenceIdeal.Run
public import Idealize.ShloMosaic.Lib.Pointwise

@[expose] public section

set_option maxRecDepth 16384

noncomputable section

namespace Cert.Proof.Value

open Idealize.ShloMosaic Cert.ReferenceIdeal Cert.ReferenceIdeal.Gen

/-- Row `r` of batch `b`, scaled. -/
abbrev scaled (X : FVec Ideal S8x2048x2048 .f32) (b : Fin 8) (r : Fin 2048) (k : Fin 2048) : EReal :=
  (200 : ℝ) * X (ix3 b r k)

/-- The reference's scaled scores, -/
def refScores (X : FVec Ideal S8x2048x2048 .f32) : FVec Ideal S8x2048x2048 .f32 :=
  mulf (broadcastInDim S8x2048x2048 ![] bcast_S_S8x2048x2048 (constant S_ .f32 0x43480000#32)) X

/-- their rows' maxima, -/
def refMax (X : FVec Ideal S8x2048x2048 .f32) : FVec Ideal S8x2048 .f32 :=
  maximumf (broadcastInDim S8x2048 ![] bcast_S_S8x2048 (constant S_ .f32 0xFF800000#32))
    (Host.reduce FloatOps.maximumf (refScores X) (constant S_ .f32 0xFF800000#32) reducesTo_S8x2048x2048_S8x2048_d2 h_S_)

/-- their exponentials, -/
def refExp (X : FVec Ideal S8x2048x2048 .f32) : FVec Ideal S8x2048x2048 .f32 :=
  Host.exp (subf (refScores X) (broadcastInDim S8x2048x2048 ![0, 1, 2] bcast_S8x2048x1_S8x2048x2048_0_1_2
    (broadcastInDim S8x2048x1 ![0, 1] bcast_S8x2048_S8x2048x1_0_1 (refMax X))))

/-- and the exponentials' sums; -/
def refSum (X : FVec Ideal S8x2048x2048 .f32) : FVec Ideal S8x2048 .f32 :=
  Host.reduceAdd (refExp X) (constant S_ .f32 0x00000000#32) reducesTo_S8x2048x2048_S8x2048_d2 h_S_

/-- the mask of the rows within a count; -/
def refMask (N : IVec S8 32) : IVec S8x2048x1 1 :=
  cmpi .slt (broadcastInDim S8x2048x1 ![0, 1, 2] bcast_S1x2048x1_S8x2048x1_0_1_2
      (broadcastInDim S1x2048x1 ![1] bcast_S2048_S1x2048x1_1 (iotaInDim S2048 32 0)))
    (broadcastInDim S8x2048x1 ![0, 1, 2] bcast_S8x1x1_S8x2048x1_0_1_2 (broadcastInDim S8x1x1 ![0] bcast_S8_S8x1x1_0 N))

/-- and its result. -/
def reference (X : FVec Ideal S8x2048x2048 .f32) (N : IVec S8 32) : FVec Ideal S8x2048x2048 .f32 :=
  select (broadcastInDim S8x2048x2048 ![0, 1, 2] bcast_S8x2048x1_S8x2048x2048_0_1_2 (refMask N))
    (Host.divf (refExp X) (broadcastInDim S8x2048x2048 ![0, 1, 2] bcast_S8x2048x1_S8x2048x2048_0_1_2
      (broadcastInDim S8x2048x1 ![0, 1] bcast_S8x2048_S8x2048x1_0_1 (refSum X))))
    (broadcastInDim S8x2048x2048 ![] bcast_S_S8x2048x2048 (constant S_ .f32 0x00000000#32))

/-! ## The operations at an element, of any operands -/

theorem scores_apply (X : FVec Ideal S8x2048x2048 .f32) (b : Fin 8) (r k : Fin 2048) :
    mulf (broadcastInDim S8x2048x2048 ![] bcast_S_S8x2048x2048 (constant S_ .f32 0x43480000#32)) X (ix3 b r k)
      = scaled X b r k := by
  pointwise []
  rw [ofBits_200]

theorem floor_apply (M : FVec Ideal S8x2048 .f32) (b : Fin 8) (r : Fin 2048) :
    maximumf (broadcastInDim S8x2048 ![] bcast_S_S8x2048 (constant S_ .f32 0xFF800000#32)) M (ix2 b r) = M (ix2 b r) := by
  pointwise []
  rw [ofBits_ninf, max_eq_right bot_le]

theorem exp_apply (S : FVec Ideal S8x2048x2048 .f32) (M : FVec Ideal S8x2048 .f32) (b : Fin 8) (r k : Fin 2048) :
    Host.exp (subf S (broadcastInDim S8x2048x2048 ![0, 1, 2] bcast_S8x2048x1_S8x2048x2048_0_1_2
      (broadcastInDim S8x2048x1 ![0, 1] bcast_S8x2048_S8x2048x1_0_1 M))) (ix3 b r k)
      = Ideal.exp (S (ix3 b r k) - M (ix2 b r)) := by
  pointwise []

theorem sum_apply (E : FVec Ideal S8x2048x2048 .f32) (b : Fin 8) (r : Fin 2048) :
    Host.reduceAdd E (constant S_ .f32 0x00000000#32) reducesTo_S8x2048x2048_S8x2048_d2 h_S_ (ix2 b r)
      = ∑ k, E (ix3 b r k) := by
  pointwise []

theorem quotient_apply (E : FVec Ideal S8x2048x2048 .f32) (Z : FVec Ideal S8x2048 .f32) (N : IVec S8 32)
    (b : Fin 8) (r k : Fin 2048) :
    select (broadcastInDim S8x2048x2048 ![0, 1, 2] bcast_S8x2048x1_S8x2048x2048_0_1_2 (refMask N))
      (Host.divf E (broadcastInDim S8x2048x2048 ![0, 1, 2] bcast_S8x2048x1_S8x2048x2048_0_1_2
        (broadcastInDim S8x2048x1 ![0, 1] bcast_S8x2048_S8x2048x1_0_1 Z)))
      (broadcastInDim S8x2048x2048 ![] bcast_S_S8x2048x2048 (constant S_ .f32 0x00000000#32)) (ix3 b r k)
      = if IntOp.cmpi .slt (BitVec.ofNat 32 r.val) (N (ix1 b)) = 1#1
        then Ideal.div (E (ix3 b r k)) (Z (ix2 b r)) else 0 := by
  pointwise [refMask]
  rfl

/-! ## The reference's arrays at an element -/

theorem refMax_at (X : FVec Ideal S8x2048x2048 .f32) (b : Fin 8) (r : Fin 2048) :
    refMax X (ix2 b r) = rowMax (scaled X b r) :=
  ((floor_apply _ b r).trans (hostMax_apply _ h_S_ (refScores X) b r (ix2 b r) rfl rfl)).trans
    (congrArg rowMax (funext fun k => scores_apply X b r k))

theorem refExp_at (X : FVec Ideal S8x2048x2048 .f32) (b : Fin 8) (r k : Fin 2048) :
    refExp X (ix3 b r k) = rowExp (scaled X b r) k :=
  (exp_apply (refScores X) (refMax X) b r k).trans
    (congrArg Ideal.exp (congrArg₂ (fun x y : EReal => x - y) (scores_apply X b r k) (refMax_at X b r)))

theorem refSum_at (X : FVec Ideal S8x2048x2048 .f32) (b : Fin 8) (r : Fin 2048) :
    refSum X (ix2 b r) = rowSum (scaled X b r) :=
  (sum_apply (refExp X) b r).trans (Finset.sum_congr rfl fun k _ => refExp_at X b r k)

/-- The reference's result: within the count the quotient, past it zero. -/
theorem reference_at (X : FVec Ideal S8x2048x2048 .f32) (N : IVec S8 32) (b : Fin 8) (r k : Fin 2048) :
    reference X N (ix3 b r k)
      = if IntOp.cmpi .slt (BitVec.ofNat 32 r.val) (N (ix1 b)) = 1#1
        then Ideal.div (rowExp (scaled X b r) k) (rowSum (scaled X b r)) else 0 := by
  refine (quotient_apply (refExp X) (refSum X) N b r k).trans ?_
  rw [refExp_at, refSum_at]

end Cert.Proof.Value

end
-- ==== Proof.Value.Equal.lean ====
/-
  The kernel's result is the reference's, on the extended reals, when the counts are at most 2048 and the largest score
  of every row within its count is finite.
-/
module

public import proofs.«01_k».proof.Proof.Value.Counts
public import proofs.«01_k».proof.Proof.Value.Kernel
public import proofs.«01_k».proof.Proof.Value.Reference

@[expose] public section

set_option maxRecDepth 16384

noncomputable section

namespace Cert.Proof.Value

open Idealize.ShloMosaic Cert.KernelIdeal Cert.Proof.Blocks Cert.Proof.KernelIdeal

variable (c : Dev nD)

/-- An array of scores, as the kernel's argument holds it. -/
abbrev Scores : Type := FVec Ideal S8x2048x2048 .f32

theorem inBlk_ix3 (b : Fin 8) (r k : Fin 2048) : inBlk (ix3 b r k) = ix3 0 ⟨r.val % 512, Nat.mod_lt _ (by decide)⟩ k := by
  funext a
  apply Fin.ext
  fin_cases a <;> rfl

/-- A row of a block is a row of its batch. -/
theorem blockRow_eq (X : Scores) (b : Fin 8) (r : Fin 2048) :
    blockRow (blkVec (F := Ideal) c X (blkIdx (ix3 b r (0 : Fin 2048)))) ⟨r.val % 512, Nat.mod_lt _ (by decide)⟩ = scaled X b r := by
  funext k
  have e : blkAt (blkIdx (ix3 b r (0 : Fin 2048))) (ix3 0 ⟨r.val % 512, Nat.mod_lt _ (by decide)⟩ k) = ix3 b r k :=
    (congrArg _ (inBlk_ix3 b r k).symm).trans (blkAt_inBlk (ix3 b r k))
  exact congrArg (fun i => ((200 : ℝ) : EReal) * X i) e

/-- What the kernel leaves at an element of a live block. -/
theorem blkOut_at (nr : ℕ → ℕ) (X : Scores) (b : Fin 8) (r k : Fin 2048) :
    blkOut (F := Ideal) c nr X (blkIdx (ix3 b r k)) (inBlk (ix3 b r k))
      = if IntOp.cmpi .slt (BitVec.ofNat 32 (r.val % 512)) (rowsWord nr (blkIdx (ix3 b r k))) = 1#1
        then rowExp (scaled X b r) k * Ideal.div 1 (rowSum (scaled X b r)) else 0 := by
  rw [inBlk_ix3]
  refine (pay6_apply _ _ _ _ k).trans ?_
  rw [pay1_apply, pay2_apply]
  have e : blkIdx (ix3 b r k) = blkIdx (ix3 b r (0 : Fin 2048)) := rfl
  rw [e, blockRow_eq]

theorem result_eq (nr : ℕ → ℕ) (X : Scores) (N : IVec Cert.ReferenceIdeal.S8 32) (hN : ∀ b : Fin 8, (N (ix1 b)).toNat = nr b.val)
    (hR : ∀ b : Fin 8, nr b.val ≤ 2048)
    (hX : ∀ (b : Fin 8) (r : Fin 2048), r.val < nr b.val → rowMax (fun k => X (ix3 b r k)) ≠ ⊥ ∧ rowMax (fun k => X (ix3 b r k)) ≠ ⊤) :
    result (F := Ideal) c nr X = reference X N := by
  funext i
  obtain ⟨b, r, k, rfl⟩ : ∃ (b : Fin 8) (r k : Fin 2048), i = ix3 b r k := ⟨i 0, i 1, i 2, by funext a; fin_cases a <;> rfl⟩
  have hr : r.val < 2048 := r.isLt
  have hb := hR b
  have hg : (blkIdx (ix3 b r k)).val = 4 * b.val + r.val / 512 := rfl
  have hq : (blkIdx (ix3 b r k)).val / 4 = b.val := by omega
  have hm : (blkIdx (ix3 b r k)).val % 4 = r.val / 512 := by omega
  rw [reference_at]
  simp only [slt_count r.val hr.le (N (ix1 b)) (by rw [hN]; exact hb), hN]
  unfold result
  by_cases hl : live nr (blkIdx (ix3 b r k)).val
  · rw [if_pos hl]
    refine (blkOut_at c nr X b r k).trans ?_
    have hlt : r.val / 512 * 512 < nr b.val := by have := hl.2; rwa [hq, hm] at this
    have hw : (rowsWord nr (blkIdx (ix3 b r k))).toNat = nr b.val - r.val / 512 * 512 := by
      unfold rowsWord
      rw [hq, hm]
      exact toNat_rows _ _ hb (by omega) hlt
    simp only [slt_count (r.val % 512) (by omega) _ (show (rowsWord nr (blkIdx (ix3 b r k))).toNat ≤ 2048 by omega), hw]
    by_cases hrow : r.val < nr b.val
    · rw [if_pos hrow, if_pos (by omega)]
      exact rowExp_mul_reciprocal _ (rowSum_scaled_ne_zero 200 (by norm_num) _ (hX b r hrow).1 (hX b r hrow).2) k
    · rw [if_neg hrow, if_neg (by omega)]
  · rw [if_neg hl]
    have hrow : ¬ r.val < nr b.val := by
      intro h
      refine hl ⟨(blkIdx (ix3 b r k)).isLt, ?_⟩
      rw [hq, hm]
      omega
    rw [if_neg hrow]
    exact pay5_apply _

end Cert.Proof.Value

end
-- ==== Proof.lean ====
/-
  The claims about the row-limited softmax, assembled: the kernel's run (Proof/Kernel/Run.lean, Proof/KernelIdeal/Run.lean)
  read under the preconditions (Proof/Value/Pre.lean), and its result, the reference's (Proof/Value/Equal.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_counts_in_range
public import proofs.«01_k».proof.Proof.Kernel.Run
public import proofs.«01_k».proof.Proof.KernelIdeal.Run
public import proofs.«01_k».proof.Proof.Value.Pre
public import proofs.«01_k».proof.Proof.Value.Equal

@[expose] public section

noncomputable section

namespace Cert.Proof

open Idealize.ShloMosaic Idealize.SL.Sem

/-! ## The counts, from the preconditions -/

theorem kernel_inRange (m : (ℓ : Loc Cert.Kernel.nD Cert.Kernel.τ Cert.Kernel.sig) → Buf (Elt Bits) ℓ) (h : Cert.Pre_Kernel m) :
    Kernel.InRange m := fun _ => Value.counts_of_pre _ _ (h 0) _

theorem kernelIdeal_inRange (m : (ℓ : Loc Cert.KernelIdeal.nD Cert.KernelIdeal.τ Cert.KernelIdeal.sig) → Buf (Elt Ideal) ℓ)
    (h : Cert.Pre_KernelIdeal m) : KernelIdeal.InRange m := fun _ => Value.counts_of_pre _ _ (h 0) _

theorem rowsFinite_inRange (m : (ℓ : Loc Cert.KernelIdeal.nD Cert.KernelIdeal.τ Cert.KernelIdeal.sig) → Buf (Elt Ideal) ℓ)
    (h : Cert.Pre_KernelIdeal_rows_finite m) : KernelIdeal.InRange m := fun _ => (Value.rows_of_pre _ _ (h 0)).1 _

/-! ## The frames -/

theorem frame_kernel : Cert.quiescent_Kernel := fun m g h =>
  (θ_run _ _ _).mono (fun _ hr => ⟨fun c => (hr.1 c).2, hr.2⟩) (Kernel.run m (kernel_inRange m h) g)

theorem frame_kernelIdeal : Cert.quiescent_KernelIdeal := fun m g h =>
  (θ_run _ _ _).mono (fun _ hr => ⟨fun c => (hr.1 c).2, hr.2⟩) (KernelIdeal.run m (kernelIdeal_inRange m h) g)

theorem frame_kernelIdeal_rows_finite : Cert.quiescent_KernelIdeal_pre_rows_finite := fun m g h =>
  (θ_run _ _ _).mono (fun _ hr => ⟨fun c => (hr.1 c).2, hr.2⟩) (KernelIdeal.run m (rowsFinite_inRange m h) g)

/-- The reference declares no semaphore. -/
theorem frame_reference : Cert.quiescent_ReferenceIdeal := fun m g _ =>
  (θ_run _ _ _).mono (fun r hr => ⟨fun c => (hr c).2, sem_eq_zero_of_no_sems (by decide) r.2⟩)
    (Cert.ReferenceIdeal.Value.run (F := Ideal) m g)

theorem frame_reference_rows_finite : Cert.quiescent_ReferenceIdeal_pre_rows_finite := fun m g _ =>
  frame_reference m g trivial

/-! ## The value -/

/-- The counts as the kernel reads them are those of its argument, on any device. -/
theorem counts_eq (m : (ℓ : Loc Cert.KernelIdeal.nD Cert.KernelIdeal.τ Cert.KernelIdeal.sig) → Buf (Elt Ideal) ℓ)
    (c : Dev Cert.KernelIdeal.nD) (b : Fin 8) :
    BitVec.toNat (KernelIdeal.start m c Cert.KernelIdeal.main_arg1 (ix1 b)) = KernelIdeal.counts m b.val := by
  rw [Subsingleton.elim c 0]
  unfold KernelIdeal.counts
  rw [dif_pos b.isLt]
  have e : (ix1 b : Cert.KernelIdeal.S8.Idx) = KernelIdeal.at8 ⟨b.val, b.isLt⟩ := by
    funext a; fin_cases a; rfl
  exact congrArg (fun i => BitVec.toNat (KernelIdeal.start m 0 Cert.KernelIdeal.main_arg1 i)) e

/-- The kernel's result is the reference's. -/
theorem value_eq (m : (ℓ : Loc Cert.KernelIdeal.nD Cert.KernelIdeal.τ Cert.KernelIdeal.sig) → Buf (Elt Ideal) ℓ)
    (h : Cert.Pre_KernelIdeal_rows_finite m) (c : Dev Cert.KernelIdeal.nD) :
    KernelIdeal.result c (KernelIdeal.counts m) (KernelIdeal.start m c Cert.KernelIdeal.main_arg0)
      = Value.reference (KernelIdeal.start m c Cert.KernelIdeal.main_arg0) (KernelIdeal.start m c Cert.KernelIdeal.main_arg1) := by
  have hp := Value.rows_of_pre _ _ (h c)
  refine Value.result_eq c _ _ _ (counts_eq m c) (fun b => ?_) (fun b r hr => ?_)
  · rw [← counts_eq m c b]; exact hp.1 _
  · rw [← counts_eq m c b] at hr; exact hp.2 b r hr

theorem algebraic : Cert.algebraic_KernelIdeal_ReferenceIdeal_pre_rows_finite := fun m g m' g' h hm =>
  ⟨fun c => KernelIdeal.result c (KernelIdeal.counts m) (KernelIdeal.start m c Cert.KernelIdeal.main_arg0),
    (θ_run _ _ _).mono (fun _ hr => hr.1) (KernelIdeal.run m (rowsFinite_inRange m h) g),
    (θ_run _ _ _).mono (fun r hr c => ⟨by
        refine (hr c).1.trans ?_
        rw [(hm c).1, (hm c).2]
        exact (value_eq m h c).symm, (hr c).2⟩)
      (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_counts_in_range.Gen.facts,
    Value.rowsFiniteFacts, frame_kernel, frame_kernelIdeal, frame_kernelIdeal_rows_finite, frame_reference,
    frame_reference_rows_finite, trivial, algebraic⟩

end Cert.Proof

end
